-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2048x32 : Shape := ⟨2, ![2048, 32]⟩
abbrev S_ : Shape := ⟨0, ![]⟩

class Facts : Prop where
  bcast_S_S2048x32 : S_.BroadcastsInDim S2048x32 (![] : Fin 0 → Fin S2048x32.rank)
  reducesTo_S2048x32_S_d0_1 : S2048x32.ReducesTo [0, 1] S_
  h_S_ : 0 < S_.numel

variable [Facts]

def fn {F : FTy → Type} [FloatOps F] (main_arg0 : FVec F S2048x32 .f32) : IVec S_ 1 :=
  let main_v0 : FVec F S2048x32 .f32 := Host.absf main_arg0
  let main_cst : FVec F S_ .f32 := constant S_ .f32 0x7F800000#32
  let main_v1 : FVec F S2048x32 .f32 := broadcastInDim S2048x32 ![] bcast_S_S2048x32 main_cst
  let main_v2 : IVec S2048x32 1 := cmpf .olt main_v0 main_v1
  let main_c : IVec S_ 1 := constantI S_ 1 1#1
  let main_v3 : IVec S_ 1 := (fun x v => Host.reduce IntOp.andi x v reducesTo_S2048x32_S_d0_1 h_S_) main_v2 main_c
  main_v3
-- ==== Kernel.lean ====
abbrev S2048x32 : Shape := ⟨2, ![2048, 32]⟩
abbrev S2048x16 : Shape := ⟨2, ![2048, 16]⟩
abbrev S16x2048 : Shape := ⟨2, ![16, 2048]⟩
abbrev S2048x2048 : Shape := ⟨2, ![2048, 2048]⟩
abbrev S256x32 : Shape := ⟨2, ![256, 32]⟩
abbrev S256x16 : Shape := ⟨2, ![256, 16]⟩
abbrev S256x2048 : Shape := ⟨2, ![256, 2048]⟩
abbrev S2048 : Shape := ⟨1, ![2048]⟩
abbrev S1x2048 : Shape := ⟨2, ![1, 2048]⟩
abbrev S256x1 : Shape := ⟨2, ![256, 1]⟩
abbrev S256 : Shape := ⟨1, ![256]⟩

abbrev nBuf : Space → Nat
  | .hbm => 5
  | .vmem => 12
  | .smem => 0
  | _ => 0

abbrev bufTy : (tb : Table) → Fin (tcTables nBuf tb) → BufTy
  | .hbm, ⟨0, _⟩ => ⟨S2048x32, .f32⟩
  | .hbm, ⟨1, _⟩ => ⟨S2048x16, .i32⟩
  | .hbm, ⟨2, _⟩ => ⟨S16x2048, .i32⟩
  | .hbm, ⟨3, _⟩ => ⟨S2048x2048, .f32⟩
  | .hbm, ⟨4, _⟩ => ⟨S2048x2048, .f32⟩
  | .local _ .vmem, ⟨0, _⟩ => ⟨S256x32, .f32⟩
  | .local _ .vmem, ⟨1, _⟩ => ⟨S256x32, .f32⟩
  | .local _ .vmem, ⟨2, _⟩ => ⟨S2048x32, .f32⟩
  | .local _ .vmem, ⟨3, _⟩ => ⟨S256x16, .i32⟩
  | .local _ .vmem, ⟨4, _⟩ => ⟨S256x16, .i32⟩
  | .local _ .vmem, ⟨5, _⟩ => ⟨S256x16, .i32⟩
  | .local _ .vmem, ⟨6, _⟩ => ⟨S256x16, .i32⟩
  | .local _ .vmem, ⟨7, _⟩ => ⟨S16x2048, .i32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | _, _ => ⟨S2048x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x16 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x16 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x2048 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S2048x32 : Shape := ⟨2, ![2048, 32]⟩
abbrev S2048x1x32 : Shape := ⟨3, ![2048, 1, 32]⟩
abbrev S1x2048x32 : Shape := ⟨3, ![1, 2048, 32]⟩
abbrev S2048x2048x32 : Shape := ⟨3, ![2048, 2048, 32]⟩
abbrev S_ : Shape := ⟨0, ![]⟩
abbrev S2048x2048 : Shape := ⟨2, ![2048, 2048]⟩
abbrev S2048x16 : Shape := ⟨2, ![2048, 16]⟩
abbrev S2048 : Shape := ⟨1, ![2048]⟩
abbrev S2048x1 : Shape := ⟨2, ![2048, 1]⟩
abbrev S2048x16x1 : Shape := ⟨3, ![2048, 16, 1]⟩
abbrev S2048x16x2 : Shape := ⟨3, ![2048, 16, 2]⟩

abbrev nBuf : Space → Nat
  | .hbm => 98
  | .vmem => 0
  | .smem => 0
  | _ => 0

abbrev bufTy : (tb : Table) → Fin (tcTables nBuf tb) → BufTy
  | .hbm, ⟨0, _⟩ => ⟨S2048x32, .f32⟩
  | .hbm, ⟨1, _⟩ => ⟨S2048x1x32, .f32⟩
  | .hbm, ⟨2, _⟩ => ⟨S1x2048x32, .f32⟩
  | .hbm, ⟨3, _⟩ => ⟨S2048x2048x32, .f32⟩
  | .hbm, ⟨4, _⟩ => ⟨S2048x2048x32, .f32⟩
  | .hbm, ⟨5, _⟩ => ⟨S2048x2048x32, .f32⟩
  | .hbm, ⟨6, _⟩ => ⟨S2048x2048x32, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .i32⟩
  | .hbm, ⟨15, _⟩ => ⟨S2048x2048, .i32⟩
  | .hbm, ⟨16, _⟩ => ⟨S_, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S_, .f32⟩
  | .hbm, ⟨21, _⟩ => ⟨S_, .f32⟩
  | .hbm, ⟨22, _⟩ => ⟨S2048x2048, .f32⟩
  | .hbm, ⟨23, _⟩ => ⟨S2048x2048, .f32⟩
  | .hbm, ⟨24, _⟩ => ⟨S2048x16, .f32⟩
  | .hbm, ⟨25, _⟩ => ⟨S2048x16, .i32⟩
  | .hbm, ⟨26, _⟩ => ⟨S2048, .i32⟩
  | .hbm, ⟨27, _⟩ => ⟨S2048x1, .i32⟩
  | .hbm, ⟨28, _⟩ => ⟨S2048x16, .i32⟩
  | .hbm, ⟨29, _⟩ => ⟨S_, .f32⟩
  | .hbm, ⟨30, _⟩ => ⟨S2048x2048, .f32⟩
  | .hbm, ⟨31, _⟩ => ⟨S_, .i32⟩
  | .hbm, ⟨32, _⟩ => ⟨S2048x16, .i32⟩
  | .hbm, ⟨33, _⟩ => ⟨S2048x16, .i1⟩
  | .hbm, ⟨34, _⟩ => ⟨S_, .i32⟩
  | .hbm, ⟨35, _⟩ => ⟨S2048x16, .i32⟩
  | .hbm, ⟨36, _⟩ => ⟨S2048x16, .i32⟩
  | .hbm, ⟨37, _⟩ => ⟨S2048x16, .i32⟩
  | .hbm, ⟨38, _⟩ => ⟨S_, .i32⟩
  | .hbm, ⟨39, _⟩ => ⟨S2048x16, .i32⟩
  | .hbm, ⟨40, _⟩ => ⟨S2048x16, .i1⟩
  | .hbm, ⟨41, _⟩ => ⟨S_, .i32⟩
  | .hbm, ⟨42, _⟩ => ⟨S2048x16, .i32⟩
  | .hbm, ⟨43, _⟩ => ⟨S2048x16, .i32⟩
  | .hbm, ⟨44, _⟩ => ⟨S2048x16, .i32⟩
  | .hbm, ⟨45, _⟩ => ⟨S2048x16x1, .i32⟩
  | .hbm, ⟨46, _⟩ => ⟨S2048x16x1, .i32⟩
  | .hbm, ⟨47, _⟩ => ⟨S2048x16x2, .i32⟩
  | .hbm, ⟨48, _⟩ => ⟨S_, .f32⟩
  | .hbm, ⟨49, _⟩ => ⟨S2048x16, .f32⟩
  | .hbm, ⟨50, _⟩ => ⟨S2048x2048, .f32⟩
  | .hbm, ⟨51, _⟩ => ⟨S_, .i32⟩
  | .hbm, ⟨52, _⟩ => ⟨S2048x16, .i32⟩
  | .hbm, ⟨53, _⟩ => ⟨S2048x16, .i1⟩
  | .hbm, ⟨54, _⟩ => ⟨S_, .i32⟩
  | .hbm, ⟨55, _⟩ => ⟨S2048x16, .i32⟩
  | .hbm, ⟨56, _⟩ => ⟨S2048x16, .i32⟩
  | .hbm, ⟨57, _⟩ => ⟨S2048x16, .i32⟩
  | .hbm, ⟨58, _⟩ => ⟨S_, .i32⟩
  | .hbm, ⟨59, _⟩ => ⟨S2048x16, .i32⟩
  | .hbm, ⟨60, _⟩ => ⟨S2048x16, .i1⟩
  | .hbm, ⟨61, _⟩ => ⟨S_, .i32⟩
  | .hbm, ⟨62, _⟩ => ⟨S2048x16, .i32⟩
  | .hbm, ⟨63, _⟩ => ⟨S2048x16, .i32⟩
  | .hbm, ⟨64, _⟩ => ⟨S2048x16, .i32⟩
  | .hbm, ⟨65, _⟩ => ⟨S2048x16x1, .i32⟩
  | .hbm, ⟨66, _⟩ => ⟨S2048x16x1, .i32⟩
  | .hbm, ⟨67, _⟩ => ⟨S2048x16x2, .i32⟩
  | .hbm, ⟨68, _⟩ => ⟨S_, .f32⟩
  | .hbm, ⟨69, _⟩ => ⟨S2048x16, .f32⟩
  | .hbm, ⟨70, _⟩ => ⟨S2048x2048, .f32⟩
  | .hbm, ⟨71, _⟩ => ⟨S_, .f32⟩
  | .hbm, ⟨72, _⟩ => ⟨S2048, .f32⟩
  | .hbm, ⟨73, _⟩ => ⟨S_, .f32⟩
  | .hbm, ⟨74, _⟩ => ⟨S2048, .f32⟩
  | .hbm, ⟨75, _⟩ => ⟨S2048, .f32⟩
  | .hbm, ⟨76, _⟩ => ⟨S2048, .f32⟩
  | .hbm, ⟨77, _⟩ => ⟨S_, .f32⟩
  | .hbm, ⟨78, _⟩ => ⟨S2048, .f32⟩
  | .hbm, ⟨79, _⟩ => ⟨S2048, .i1⟩
  | .hbm, ⟨80, _⟩ => ⟨S_, .f32⟩
  | .hbm, ⟨81, _⟩ => ⟨S_, .f32⟩
  | .hbm, ⟨82, _⟩ => ⟨S2048, .f32⟩
  | .hbm, ⟨83, _⟩ => ⟨S2048, .f32⟩
  | .hbm, ⟨84, _⟩ => ⟨S_, .f32⟩
  | .hbm, ⟨85, _⟩ => ⟨S2048, .f32⟩
  | .hbm, ⟨86, _⟩ => ⟨S2048x2048, .i32⟩
  | .hbm, ⟨87, _⟩ => ⟨S2048x2048, .i32⟩
  | .hbm, ⟨88, _⟩ => ⟨S_, .i32⟩
  | .hbm, ⟨89, _⟩ => ⟨S2048x2048, .i32⟩
  | .hbm, ⟨90, _⟩ => ⟨S2048x2048, .i32⟩
  | .hbm, ⟨91, _⟩ => ⟨S2048x2048, .i1⟩
  | .hbm, ⟨92, _⟩ => ⟨S2048x1, .f32⟩
  | .hbm, ⟨93, _⟩ => ⟨S_, .f32⟩
  | .hbm, ⟨94, _⟩ => ⟨S2048x2048, .f32⟩
  | .hbm, ⟨95, _⟩ => ⟨S2048x2048, .f32⟩
  | .hbm, ⟨96, _⟩ => ⟨S2048x2048, .f32⟩
  | .hbm, ⟨97, _⟩ => ⟨S2048x2048, .f32⟩
  | _, _ => ⟨S2048x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v16 : Ref sig .tc := ⟨.hbm, 23, rfl⟩
abbrev main_values : Ref sig .tc := ⟨.hbm, 24, rfl⟩
abbrev main_indices : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_5 : Ref sig .tc := ⟨.hbm, 38, rfl⟩
abbrev main_v26 : Ref sig .tc := ⟨.hbm, 39, rfl⟩
abbrev main_v27 : Ref sig .tc := ⟨.hbm, 40, rfl⟩
abbrev main_c_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_c_8 : Ref sig .tc := ⟨.hbm, 51, rfl⟩
abbrev main_v36 : Ref sig .tc := ⟨.hbm, 52, rfl⟩
abbrev main_v37 : Ref sig .tc := ⟨.hbm, 53, rfl⟩
abbrev main_c_9 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c_10 : Ref sig .tc := ⟨.hbm, 58, rfl⟩
abbrev main_v41 : Ref sig .tc := ⟨.hbm, 59, rfl⟩
abbrev main_v42 : Ref sig .tc := ⟨.hbm, 60, rfl⟩
abbrev main_c_11 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_12 : Ref sig .tc := ⟨.hbm, 68, rfl⟩
abbrev main_v49 : Ref sig .tc := ⟨.hbm, 69, rfl⟩
abbrev main_v50 : Ref sig .tc := ⟨.hbm, 70, rfl⟩
abbrev main_cst_13 : Ref sig .tc := ⟨.hbm, 71, rfl⟩
abbrev main_v51 : Ref sig .tc := ⟨.hbm, 72, rfl⟩
abbrev main_cst_14 : Ref sig .tc := ⟨.hbm, 73, rfl⟩
abbrev main_v52 : Ref sig .tc := ⟨.hbm, 74, rfl⟩
abbrev main_v53 : Ref sig .tc := ⟨.hbm, 75, rfl⟩
abbrev main_call1_v0 : Ref sig .tc := ⟨.hbm, 76, rfl⟩
abbrev main_call1_cst : Ref sig .tc := ⟨.hbm, 77, rfl⟩
abbrev main_call1_v1 : Ref sig .tc := ⟨.hbm, 78, rfl⟩
abbrev main_v54 : Ref sig .tc := ⟨.hbm, 79, rfl⟩
abbrev main_cst_15 : Ref sig .tc := ⟨.hbm, 80, rfl⟩
abbrev main_call2_v0 : Ref sig .tc := ⟨.hbm, 81, rfl⟩
abbrev main_call2_v1 : Ref sig .tc := ⟨.hbm, 82, rfl⟩
abbrev main_v55 : Ref sig .tc := ⟨.hbm, 83, rfl⟩
abbrev main_call3_cst : Ref sig .tc := ⟨.hbm, 84, rfl⟩
abbrev main_call3_v0 : Ref sig .tc := ⟨.hbm, 85, rfl⟩
abbrev main_call3_v1 : Ref sig .tc := ⟨.hbm, 86, rfl⟩
abbrev main_call3_v2 : Ref sig .tc := ⟨.hbm, 87, rfl⟩
abbrev main_call3_c : Ref sig .tc := ⟨.hbm, 88, rfl⟩
abbrev main_call3_v3 : Ref sig .tc := ⟨.hbm, 89, rfl⟩
abbrev main_call3_v4 : Ref sig .tc := ⟨.hbm, 90, rfl⟩
abbrev main_call3_v5 : Ref sig .tc := ⟨.hbm, 91, rfl⟩
abbrev main_call3_v6 : Ref sig .tc := ⟨.hbm, 92, rfl⟩
abbrev main_call3_cst_0 : Ref sig .tc := ⟨.hbm, 93, rfl⟩
abbrev main_call3_call0_v0 : Ref sig .tc := ⟨.hbm, 94, rfl⟩
abbrev main_call3_call0_v1 : Ref sig .tc := ⟨.hbm, 95, rfl⟩
abbrev main_v56 : Ref sig .tc := ⟨.hbm, 96, rfl⟩
abbrev main_v57 : Ref sig .tc := ⟨.hbm, 97, rfl⟩

abbrev nD : Nat := 1
abbrev τ : Topo := Topo.v7x

variable {F : FTy → Type} [FloatOps F]
-- ==== Proof.Words.lean ====
module

public import Idealize.ShloMosaic.Lib.IdealHost
public import Idealize.ShloMosaic.Lib.Pipeline.ValueKit

@[expose] public section

noncomputable section

/-!
The values of a few words: infinities, minus one and row numbers.
-/

namespace Cert.Proof.Words

open Idealize.ShloMosaic

/-- The word of −∞. -/
theorem ofBits_bot : Ideal.ofBits .f32 0xFF800000#32 = ⊥ := by simp [Ideal.ofBits, Ideal.ieee]

/-- The word of +∞. -/
theorem ofBits_top : Ideal.ofBits .f32 0x7F800000#32 = ⊤ := by simp [Ideal.ofBits, Ideal.ieee]

/-- The word of minus one. -/
theorem ofBits_neg_one : Ideal.ofBits .f32 0xBF800000#32 = ((-1 : ℝ) : EReal) := by
  simp [Ideal.ofBits, Ideal.ieee]
  rw [← EReal.coe_mul]
  norm_num

/-- The words of two numbers below 2048 are equal when the numbers are. -/
theorem word_inj (a b : Fin 2048) : BitVec.ofNat 32 a.val = BitVec.ofNat 32 b.val ↔ a = b := by
  have ha := a.isLt
  have hb := b.isLt
  constructor
  · intro e
    have := congrArg BitVec.toNat e
    simp only [BitVec.toNat_ofNat] at this
    exact Fin.ext (by omega)
  · rintro rfl; rfl

end Cert.Proof.Words
-- ==== Proof.Finite.lean ====
module

public import proofs.«01_k».proof.Defs
public import proofs.«01_k».proof.Proof.Gen.Pre_finite
public import proofs.«01_k».proof.Proof.Gen.KernelIdeal
public import Idealize.ShloMosaic.Lib.ReduceAll
public import Idealize.ShloMosaic.Lib.Pipeline.ValueKit
public import proofs.«01_k».proof.Proof.Words

@[expose] public section

set_option maxRecDepth 16384

noncomputable section

/-!
What the precondition says: every entry of the argument is a real number.
-/

open Idealize.ShloMosaic Idealize.ShloMosaic.TcCoe Idealize.SL.Sem

namespace Cert.Proof.Finite

open Cert.Pre_finite Cert.Pre_finite.Gen

/-- An argument that meets the precondition has real entries. -/
theorem exists_real (x : FVec Ideal S2048x32 .f32) (h : fn (F := Ideal) x = fun _ => 1#1) :
    ∃ X : Fin 2048 → Fin 32 → ℝ, ∀ (i : Fin 2048) (k : Fin 32), x (ix2 i k) = ((X i k : ℝ) : EReal) := by
  have hr : ∀ (i : Fin 2048) (k : Fin 32), ∃ r : ℝ, x (ix2 i k) = ((r : ℝ) : EReal) := by
    intro i k
    haveI : Subsingleton S_.Idx := ⟨fun a b => funext fun d => d.elim0⟩
    have h1 := Host.reduce_andi_all _ _ _ _ ix0 (congrFun h ix0) (ix2 i k)
    revert h1
    pointwise
    rw [Words.ofBits_top]
    generalize x (ix2 i k) = v
    intro h1
    match v, h1 with
    | ⊥, h1 => exact absurd h1 (by simp [FloatOps.absf])
    | ⊤, h1 => exact absurd h1 (by simp [FloatOps.absf])
    | (r : ℝ), _ => exact ⟨r, rfl⟩
  choose X hX using hr
  exact ⟨X, hX⟩

end Cert.Proof.Finite
-- ==== Proof.Rank.lean ====
module

public import Idealize.ShloMosaic.Lib.SortPrefix
public import Mathlib.Data.EReal.Basic

@[expose] public section

noncomputable section

/-!
The order of a row, as the two programs find it.  One program sorts the row's positions by their keys, greatest key first, equal keys
in the order of their positions.  The other picks the first greatest position, puts the least value there, and does so again.  Both find
the same positions, as long as a position that was not picked yet has more than the least value.
-/

namespace Cert.Proof.Rank

open Idealize.ShloMosaic

variable {n : Nat}

/-- Two comparisons that agree wherever the sort asks them (a later element against an earlier one) sort a list alike. -/
theorem stableSort_eq_of_later {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- "Position `a` comes before position `b`": its key is greater, or the keys are equal and it is the earlier one. -/
def first (key : Fin n → EReal) (a b : Fin n) : Bool :=
  decide (key b < key a) || (decide (key a = key b) && decide (a < b))

/-- This is a strict total order of the positions. -/
theorem first_strict (key : Fin n → EReal) : StrictTotalBefore (first key) :=
  StrictTotalBefore.of_key_then_position (fun a b => decide (b < a)) key (fun a => by simp)
    (fun a b c hab hbc => by
      simp only [decide_eq_true_eq] at hab hbc ⊢
      exact hbc.trans hab)
    (fun a b => by
      simp only [decide_eq_true_eq]
      rcases lt_trichotomy a b with h | h | h
      · exact .inr (.inr h)
      · exact .inr (.inl h)
      · exact .inl h)

/-- A sort that keeps the order of equal elements sorts by `first` when it compares the keys alone. -/
theorem sortedFrom_first (key : Fin n → EReal) (before : Fin n → Fin n → Bool) (hb : ∀ a b, before a b = decide (key b < key a)) :
    sortedFrom before = sortedFrom (first key) := by
  have hs : sortPositions n before = sortPositions n (first key) := by
    unfold sortPositions
    refine stableSort_eq_of_later _ _ _ ((List.pairwise_lt_finRange n).imp fun {a b} hab => ?_)
    rw [hb]
    unfold first
    simp [not_lt.mpr hab.le]
  funext k
  unfold sortedFrom
  rw [List.get_of_eq hs]
  rfl

/-- `p` is the first of the positions where `s` is greatest. -/
def IsPick (s : Fin n → EReal) (p : Fin n) : Prop := (∀ j, s j ≤ s p) ∧ ∀ j, s j = s p → p ≤ j

/-- There is such a position. -/
theorem exists_pick (hn : 0 < n) (s : Fin n → EReal) : ∃ p, IsPick s p := by
  classical
  obtain ⟨q, -, hq⟩ := Finset.exists_max_image (Finset.univ : Finset (Fin n)) s ⟨⟨0, hn⟩, Finset.mem_univ _⟩
  obtain ⟨p, hp, hmin⟩ := Finset.exists_min_image (Finset.univ.filter fun j => s j = s q) (fun j => j) ⟨q, by simp⟩
  rw [Finset.mem_filter] at hp
  refine ⟨p, fun j => ?_, fun j hj => ?_⟩
  · rw [hp.2]; exact hq j (Finset.mem_univ j)
  · exact hmin j (by rw [Finset.mem_filter]; exact ⟨Finset.mem_univ j, hj.trans hp.2⟩)

/-- What is left of the keys after the picks `σ 0, …, σ (r - 1)`: the least value at each position picked. -/
def left (key : Fin n → EReal) (σ : ℕ → Fin n) : ℕ → Fin n → EReal
  | 0 => key
  | r + 1 => fun j => if j = σ r then ⊥ else left key σ r j

/-- A position that was not picked still has its key. -/
theorem left_of_new (key : Fin n → EReal) (σ : ℕ → Fin n) (r : ℕ) (j : Fin n) (h : ∀ t < r, σ t ≠ j) : left key σ r j = key j := by
  induction r with
  | zero => rfl
  | succ r ih =>
    unfold left
    rw [if_neg (Ne.symm (h r (Nat.lt_succ_self r))), ih fun t ht => h t (Nat.lt_succ_of_lt ht)]

/-- A position that was picked has the least value. -/
theorem left_of_old (key : Fin n → EReal) (σ : ℕ → Fin n) (r t : ℕ) (ht : t < r) : left key σ r (σ t) = ⊥ := by
  induction r with
  | zero => exact absurd ht (Nat.not_lt_zero _)
  | succ r ih =>
    unfold left
    by_cases h : σ t = σ r
    · rw [if_pos h]
    · rw [if_neg h]
      refine ih ?_
      rcases Nat.lt_succ_iff_lt_or_eq.mp ht with h' | rfl
      · exact h'
      · exact absurd rfl h

/-- Fewer picks than positions leave one, other than `d`, that was not picked. -/
theorem exists_new (σ : ℕ → Fin n) (d : Fin n) (r : ℕ) (hr : r + 1 < n) : ∃ j, j ≠ d ∧ ∀ t < r, σ t ≠ j := by
  classical
  have hc : (insert d ((Finset.range r).image σ)).card < (Finset.univ : Finset (Fin n)).card := by
    rw [Finset.card_univ, Fintype.card_fin]
    refine lt_of_le_of_lt (Finset.card_insert_le _ _) (lt_of_le_of_lt (Nat.succ_le_succ Finset.card_image_le) ?_)
    rwa [Finset.card_range]
  obtain ⟨j, -, hj⟩ := Finset.exists_mem_notMem_of_card_lt_card hc
  rw [Finset.mem_insert, not_or, Finset.mem_image, not_exists] at hj
  exact ⟨j, hj.1, fun t ht h => hj.2 t ⟨Finset.mem_range.mpr ht, h⟩⟩

/-- The repeated picks are the sort's first positions, in order: every key but that of `d` is more than the least value, and there are
    fewer picks than positions. -/
theorem sortedFrom_eq_pick (key : Fin n → EReal) (d : Fin n) (hd : ∀ j, j ≠ d → ⊥ < key j) (k : ℕ) (hk : k < n) (σ : ℕ → Fin n)
    (hσ : ∀ r < k, IsPick (left key σ r) (σ r)) (before : Fin n → Fin n → Bool) (hb : ∀ a b, before a b = decide (key b < key a))
    (r : Fin k) : sortedFrom before (r.castLE hk.le) = σ r := by
  have hnew : ∀ r < k, ∀ t < r, σ t ≠ σ r := by
    intro r hr t ht he
    obtain ⟨j, hjd, hj⟩ := exists_new σ d r (by omega)
    have h1 := (hσ r hr).1 j
    rw [← he, left_of_old key σ r t ht, left_of_new key σ r j hj] at h1
    exact absurd h1 (not_le.mpr (hd j hjd))
  have hle : ∀ r < k, ∀ j, (∀ t < r, σ t ≠ j) → first key j (σ r) = false := by
    intro r hr j hj
    have h1 := (hσ r hr).1 j
    have h2 := (hσ r hr).2 j
    rw [left_of_new key σ r j hj, left_of_new key σ r _ (hnew r hr)] at h1 h2
    unfold first
    simp only [Bool.or_eq_false_iff, Bool.and_eq_false_iff, decide_eq_false_iff_not]
    refine ⟨not_lt.mpr h1, ?_⟩
    by_cases he : key j = key (σ r)
    · exact .inr (not_lt.mpr (h2 he))
    · exact .inl he
  rw [sortedFrom_first key before hb]
  refine (first_strict key).sortedFrom_eq_of_prefix hk.le (fun i => σ i.val) ?_ ?_ ?_ r
  · intro a b hab
    rcases lt_trichotomy a b with h | h | h
    · exact absurd hab (hnew b.val b.isLt a.val h)
    · exact h
    · exact absurd hab.symm (hnew a.val a.isLt b.val h)
  · intro i j hij
    exact hle i.val i.isLt _ fun t ht => hnew j.val j.isLt t (lt_trans ht hij)
  · intro i p hp
    exact hle i.val i.isLt _ fun t ht => hp ⟨t, lt_trans ht i.isLt⟩

end Cert.Proof.Rank
-- ==== Proof.Rounds.lean ====
module

public import proofs.«01_k».proof.Proof.Gen.KernelIdeal.Frame
public import proofs.«01_k».proof.Proof.Rank
public import Idealize.ShloMosaic.Lib.Pipeline.ValueKit
public import Idealize.ShloMosaic.Lib.PlanTiles.Rows
public import Idealize.ShloMosaic.Lib.WordCmp
public import proofs.«01_k».proof.Proof.Words

@[expose] public section

set_option maxRecDepth 16384

noncomputable section

/-!
The sixteen rounds of the kernel's first stage: each takes, in every row of the block's scores, the first column where the row is greatest, and puts
−∞ there.
-/

open Idealize.ShloMosaic Idealize.ShloMosaic.TcCoe Idealize.SL.Sem

namespace Cert.Proof.Rounds

open Cert.KernelIdeal Cert.KernelIdeal.Gen

/-- The column numbers. -/
abbrev cols : IVec S256x2048 32 := iota .tc S256x2048 32 [1] iota_S256x2048_d1_w32

/-- The column each row of the scores picks: the least column whose score is the row's greatest. -/
def pickV (s : FVec Ideal S256x2048 .f32) : IVec S256x1 32 :=
  shapeCast S256x1 (multiReductionI .minsi [1] S256
    (select (cmpf .oeq s (broadcastTo S256x2048 (shapeCast S256x1
      (multiReduction .maximumf [1] S256 s 0xFF800000#32 reduces_S256x2048_S256 (.inl rfl) rfl) shapeCasts_S256_S256x1) broadcasts_S256x1_S256x2048))
      cols (broadcast S256x2048 2048#32)) 2147483647#32 reduces_S256x2048_S256 rfl) shapeCasts_S256_S256x1

/-- The scores with −∞ at the columns `p`. -/
def dropV (s : FVec Ideal S256x2048 .f32) (p : IVec S256x1 32) : FVec Ideal S256x2048 .f32 :=
  select (cmpi .eq cols (broadcastTo S256x2048 p broadcasts_S256x1_S256x2048)) (broadcast S256x2048 (Scalar.ofBits .f32 0xFF800000#32)) s

/-- The scores before round `r`. -/
def roundV (s : FVec Ideal S256x2048 .f32) : ℕ → FVec Ideal S256x2048 .f32
  | 0 => s
  | r + 1 => dropV (roundV s r) (pickV (roundV s r))

/-- Sixteen columns make up the block. -/
theorem columns (f : Fin 16 → IVec S256x1 32) :
    Shape.Concatenates ((List.ofFn fun r : Fin 16 => (⟨S256x1, f r⟩ : (s : Shape) × (s.Idx → BitVec 32))).map (·.1)) S256x16 1 :=
  concatenates_S256x1_S256x1_S256x1_S256x1_S256x1_S256x1_S256x1_S256x1_S256x1_S256x1_S256x1_S256x1_S256x1_S256x1_S256x1_S256x1_S256x16_d1

/-- The picks of the sixteen rounds, one column each. -/
def picksV (s : FVec Ideal S256x2048 .f32) : IVec S256x16 32 :=
  concatenate S256x16 1 (List.ofFn fun r : Fin 16 => (⟨S256x1, pickV (roundV s r.val)⟩ : (s : Shape) × (s.Idx → BitVec 32))) (columns _)

/-- What the first kernel leaves in its block: the picks of the sixteen rounds over the block's scores. -/
theorem out_eq (i : grid0.Coords) (x0 : Vec Ideal S256x32 .f32) (x1 : Vec Ideal S2048x32 .f32) :
    out0_2 i x0 x1 = View.canon [⟨r0_2, picksV (k0_pay2 i (View.ld x0 r0_0) (View.ld x1 r0_1))⟩] := by
  unfold_out out0_2
  rfl

/-- The least of the column numbers where `P` holds, as the words' signed minimum finds it. -/
theorem fold_minsi (P : Fin 2048 → Prop) [DecidablePred P] (p : Fin 2048) (hp : P p) (hmin : ∀ j, P j → p ≤ j) :
    (Finset.univ : Finset (Fin 2048)).fold IntOp.minsi 2147483647#32 (fun x => if P x then BitVec.ofNat 32 x.val else 2048#32)
      = BitVec.ofNat 32 p.val := by
  have key : ∀ s : Finset (Fin 2048), s.fold min 2147483647 (fun x : Fin 2048 => if P x then x.val else 2048) ≤ 2147483647
      ∧ s.fold IntOp.minsi 2147483647#32 (fun x => if P x then BitVec.ofNat 32 x.val else 2048#32)
        = BitVec.ofNat 32 (s.fold min 2147483647 fun x : Fin 2048 => if P x then x.val else 2048) := by
    intro s
    induction s using Finset.induction_on with
    | empty => exact ⟨le_rfl, rfl⟩
    | insert a s ha ih =>
      rw [Finset.fold_insert ha, Finset.fold_insert ha, ih.2]
      refine ⟨(min_le_right _ _).trans ih.1, ?_⟩
      have ha := a.isLt
      rw [show (if P a then BitVec.ofNat 32 a.val else 2048#32) = BitVec.ofNat 32 (if P a then a.val else 2048) from by
        split <;> rfl]
      rw [PlanTiles.minsi_word (by split <;> omega) (by have := ih.1; omega), min_comm]
  rw [(key _).2]
  congr 1
  have hlt := p.isLt
  refine le_antisymm ?_ ?_
  · rw [Finset.fold_min_le]
    exact .inr ⟨p, Finset.mem_univ p, by rw [if_pos hp]⟩
  · rw [Finset.le_fold_min]
    refine ⟨by omega, fun j _ => ?_⟩
    by_cases h : P j
    · rw [if_pos h]; exact hmin j h
    · rw [if_neg h]; omega

/-- The greatest of the values, when one of them is at least all the others. -/
theorem fold_max (f : Fin 2048 → EReal) (p : Fin 2048) (hp : ∀ j, f j ≤ f p) :
    (Finset.univ : Finset (Fin 2048)).fold max ⊥ f = f p := by
  refine le_antisymm ?_ ?_
  · rw [Finset.fold_max_le]
    exact ⟨bot_le, fun j _ => hp j⟩
  · rw [Finset.le_fold_max]
    exact .inr ⟨p, Finset.mem_univ p, le_rfl⟩

/-- A row's pick is the first column where the row is greatest. -/
theorem pickV_row (s : FVec Ideal S256x2048 .f32) (l : Fin 256) (p : Fin 2048) (hp : Rank.IsPick (fun j => s (ix2 l j)) p) :
    pickV s (ix2 l (0 : Fin 1)) = BitVec.ofNat 32 p.val := by
  pointwise [pickV]
  rw [Words.ofBits_bot, fold_max (fun j => s (ix2 l j)) p hp.1]
  exact fold_minsi _ p rfl hp.2

/-- Dropping the column `p` of a row puts −∞ there and leaves the rest. -/
theorem dropV_row (s : FVec Ideal S256x2048 .f32) (w : IVec S256x1 32) (l : Fin 256) (p : Fin 2048)
    (hw : w (ix2 l (0 : Fin 1)) = BitVec.ofNat 32 p.val) (j : Fin 2048) :
    dropV s w (ix2 l j) = if j = p then ⊥ else s (ix2 l j) := by
  pointwise [dropV]
  rw [Words.ofBits_bot, hw]
  rw [WordCmp.cmpi_eq_eq, WordCmp.select_decide]
  exact if_congr (Words.word_inj j p) rfl rfl

/-- Row `l` picks `σ 0, σ 1, …` over the rounds, each the first greatest of what the earlier picks left. -/
theorem exists_picks (s : FVec Ideal S256x2048 .f32) (l : Fin 256) :
    ∃ σ : ℕ → Fin 2048, ∀ r, Rank.IsPick (Rank.left (fun j => s (ix2 l j)) σ r) (σ r)
      ∧ pickV (roundV s r) (ix2 l (0 : Fin 1)) = BitVec.ofNat 32 (σ r).val := by
  choose σ hσ using fun r : ℕ => Rank.exists_pick (by decide) fun j : Fin 2048 => roundV s r (ix2 l j)
  have hpick : ∀ r, pickV (roundV s r) (ix2 l (0 : Fin 1)) = BitVec.ofNat 32 (σ r).val := fun r => pickV_row _ l _ (hσ r)
  have hleft : ∀ r, Rank.left (fun j => s (ix2 l j)) σ r = fun j => roundV s r (ix2 l j) := by
    intro r
    induction r with
    | zero => rfl
    | succ r ih =>
      funext j
      unfold Rank.left roundV
      rw [dropV_row _ _ l (σ r) (hpick r) j, ih]
  exact ⟨σ, fun r => ⟨by rw [hleft r]; exact hσ r, hpick r⟩⟩

/-- Column `r` of the block of picks is round `r`'s. -/
theorem picksV_at (s : FVec Ideal S256x2048 .f32) (l : Fin 256) (r : Fin 16) :
    picksV s (ix2 l r) = pickV (roundV s r.val) (ix2 l (0 : Fin 1)) := by
  unfold picksV
  refine concatenate_ofFn_unit_apply (t := S256x16) (s₁ := S256x1) 1 (fun r : Fin 16 => pickV (roundV s r.val)) (columns _) rfl rfl
    (ix2 l r) r rfl (ix2 l (0 : Fin 1)) fun b hb => ?_
  match b with
  | ⟨0, _⟩ => rfl
  | ⟨1, _⟩ => exact absurd rfl hb

end Cert.Proof.Rounds
-- ==== Proof.Keys.lean ====
module

public import Mathlib.Data.EReal.Basic
public import Mathlib.Analysis.SpecialFunctions.Exp
public import Mathlib.Algebra.BigOperators.Ring.Finset

@[expose] public section

noncomputable section

/-!
The two keys by which the programs rank the other rows from row `g`, over the rows' real entries.  One is the similarity, the exponential
of minus the squared distance; the other is twice the inner product less the squared length of the other row.  They order the rows alike.
-/

namespace Cert.Proof.Keys

variable {n d : ℕ} (X : Fin n → Fin d → ℝ) (g : Fin n)

/-- A finite sum of real numbers is the same sum in the extended reals. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The inner-product key, and the least value for the row itself. -/
def kerKey (j : Fin n) : EReal :=
  if j = g then ⊥ else ((2 * ∑ k, X g k * X j k - ∑ k, X j k * X j k : ℝ) : EReal)

/-- The similarity, and the least value for the row itself. -/
def refKey (j : Fin n) : EReal :=
  if j = g then ⊥ else ((Real.exp (-∑ k, (X g k - X j k) * (X g k - X j k)) : ℝ) : EReal)

/-- Minus the squared distance is the inner-product key less the squared length of row `g`. -/
theorem neg_dist (j : Fin n) : -∑ k, (X g k - X j k) * (X g k - X j k)
    = (2 * ∑ k, X g k * X j k - ∑ k, X j k * X j k) - ∑ k, X g k * X g k := by
  rw [Finset.mul_sum, ← Finset.sum_sub_distrib, ← Finset.sum_sub_distrib, ← Finset.sum_neg_distrib]
  exact Finset.sum_congr rfl fun k _ => by ring

/-- Every key but the row's own is more than the least value. -/
theorem bot_lt_kerKey (j : Fin n) (h : j ≠ g) : ⊥ < kerKey X g j := by
  unfold kerKey
  rw [if_neg h]
  exact EReal.bot_lt_coe _

/-- The two keys order the rows alike. -/
theorem refKey_lt_iff (a b : Fin n) : refKey X g b < refKey X g a ↔ kerKey X g b < kerKey X g a := by
  unfold refKey kerKey
  by_cases ha : a = g
  · simp [ha]
  · by_cases hb : b = g
    · rw [if_pos hb, if_pos hb, if_neg ha, if_neg ha]
      exact ⟨fun _ => EReal.bot_lt_coe _, fun _ => EReal.bot_lt_coe _⟩
    · rw [if_neg ha, if_neg hb, if_neg ha, if_neg hb, EReal.coe_lt_coe_iff, EReal.coe_lt_coe_iff, Real.exp_lt_exp, neg_dist, neg_dist]
      exact sub_lt_sub_iff_right _

end Cert.Proof.Keys
-- ==== Proof.Scores.lean ====
module

public import proofs.«01_k».proof.Proof.Gen.KernelIdeal.Frame
public import Idealize.ShloMosaic.Lib.Pipeline.ValueKit
public import Idealize.ShloMosaic.Lib.WordCmp
public import proofs.«01_k».proof.Proof.Keys
public import proofs.«01_k».proof.Proof.Words

@[expose] public section

set_option maxRecDepth 16384

noncomputable section

/-!
The scores of the kernel's first stage: twice the inner product of two rows less the other row's squared length, −∞ at the row itself.
-/

open Idealize.ShloMosaic Idealize.ShloMosaic.TcCoe Idealize.SL.Sem

namespace Cert.Proof.Scores

open Cert.KernelIdeal Cert.KernelIdeal.Gen

/-- The word of 2. -/
theorem ofBits_two : Ideal.ofBits .f32 0x40000000#32 = ((2 : ℝ) : EReal) := by
  simp [Ideal.ofBits, Ideal.ieee]
  rw [← EReal.coe_mul]
  norm_num

/-- The block's scores are the inner-product keys of its rows: row `l` of the block at grid position `i` is row `g` of the array. -/
theorem score_at (X : Fin 2048 → Fin 32 → ℝ) (i : grid0.Coords) (x0 : Vec Ideal S256x32 .f32) (x1 : Vec Ideal S2048x32 .f32) (l : Fin 256)
    (g : Fin 2048) (hg : g.val = (i 0).val * 256 + l.val) (h0 : ∀ k : Fin 32, x0 (ix2 l k) = ((X g k : ℝ) : EReal))
    (h1 : ∀ (j : Fin 2048) (k : Fin 32), x1 (ix2 j k) = ((X j k : ℝ) : EReal)) (j : Fin 2048) :
    k0_pay2 i x0 x1 (ix2 l j) = Keys.kerKey X g j := by
  pointwise [k0_pay2]
  rw [Words.ofBits_bot, ofBits_two, WordCmp.cmpi_eq_eq, WordCmp.select_decide]
  have hw : (BitVec.ofNat 32 j.val = IntOp.addi (Scalar.muli (BitVec.ofNat 32 (i 0).val) 256#32) (BitVec.ofNat 32 l.val)) ↔ j = g := by
    rw [show IntOp.addi (Scalar.muli (BitVec.ofNat 32 (i 0).val) 256#32) (BitVec.ofNat 32 l.val) = BitVec.ofNat 32 g.val from by
      rw [hg]
      show BitVec.ofNat 32 (i 0).val * BitVec.ofNat 32 256 + BitVec.ofNat 32 l.val = _
      rw [← BitVec.ofNat_mul, ← BitVec.ofNat_add]]
    exact Words.word_inj j g
  unfold Keys.kerKey
  by_cases h : j = g
  · rw [if_pos h, if_pos (hw.mpr h)]
  · rw [if_neg h, if_neg (fun e => h (hw.mp e)), EReal.coe_sub, EReal.coe_mul, Keys.coe_sum, Keys.coe_sum]
    simp only [h0, h1, EReal.coe_mul]

end Cert.Proof.Scores
-- ==== Proof.Table.lean ====
module

public import proofs.«01_k».proof.Proof.Keys
public import proofs.«01_k».proof.Proof.Rank
public import Idealize.ShloMosaic.Lib.Pipeline.ValueKit

@[expose] public section

set_option maxRecDepth 16384

noncomputable section

/-!
The table of neighbours of a list of rows.
-/

open Idealize.ShloMosaic

namespace Cert.Proof.Table

/-- Neighbour `r` of row `g`: the position a stable sort of the row's keys, greatest first, puts at `r`. -/
def table (X : Fin 2048 → Fin 32 → ℝ) (g : Fin 2048) (r : Fin 16) : Fin 2048 :=
  sortedFrom (fun a b => decide (Keys.kerKey X g b < Keys.kerKey X g a)) (r.castLE (by decide))

/-- Sixteen successive picks of the greatest key, the lowest position first among equals, are the sixteen neighbours. -/
theorem table_eq_pick (X : Fin 2048 → Fin 32 → ℝ) (g : Fin 2048) (σ : ℕ → Fin 2048)
    (hσ : ∀ r < 16, Rank.IsPick (Rank.left (Keys.kerKey X g) σ r) (σ r)) (r : Fin 16) : table X g r = σ r :=
  Rank.sortedFrom_eq_pick (Keys.kerKey X g) g (fun j h => Keys.bot_lt_kerKey X g j h) 16 (by decide) σ hσ _ (fun _ _ => rfl) r

end Cert.Proof.Table
-- ==== Proof.KerTable.lean ====
module

public import proofs.«01_k».proof.Proof.Rounds
public import proofs.«01_k».proof.Proof.Scores
public import proofs.«01_k».proof.Proof.Table

@[expose] public section

set_option maxRecDepth 16384

noncomputable section

/-!
The kernel's first stage picks the table's neighbours.
-/

open Idealize.ShloMosaic Idealize.ShloMosaic.TcCoe Idealize.SL.Sem

namespace Cert.Proof.KerTable

open Cert.KernelIdeal Cert.KernelIdeal.Gen

/-- At a grid point, line `l` of the block the first stage writes holds the neighbours of row `256 i + l`. -/
theorem picks_eq (X : Fin 2048 → Fin 32 → ℝ) (i : grid0.Coords) (x0 : Vec Ideal S256x32 .f32) (x1 : Vec Ideal S2048x32 .f32) (l : Fin 256)
    (g : Fin 2048) (hg : g.val = (i 0).val * 256 + l.val) (h0 : ∀ k : Fin 32, x0 (ix2 l k) = ((X g k : ℝ) : EReal))
    (h1 : ∀ (j : Fin 2048) (k : Fin 32), x1 (ix2 j k) = ((X j k : ℝ) : EReal)) (r : Fin 16) :
    Rounds.picksV (k0_pay2 i x0 x1) (ix2 l r) = BitVec.ofNat 32 (Table.table X g r).val := by
  obtain ⟨σ, hσ⟩ := Rounds.exists_picks (k0_pay2 i x0 x1) l
  rw [Rounds.picksV_at, (hσ r.val).2]
  have hs : (fun j : Fin 2048 => k0_pay2 i x0 x1 (ix2 l j)) = Keys.kerKey X g := funext fun j => Scores.score_at X i x0 x1 l g hg h0 h1 j
  rw [Table.table_eq_pick X g σ (fun n _ => hs ▸ (hσ n).1) r]

end Cert.Proof.KerTable
-- ==== Proof.Stage1.lean ====
module

public import proofs.«01_k».proof.Proof.KerTable

@[expose] public section

set_option maxRecDepth 16384

noncomputable section

/-!
What the kernel's first stage leaves in its output array: the table of neighbours.
-/

open Idealize.ShloMosaic Idealize.ShloMosaic.TcCoe Idealize.SL.Sem

namespace Cert.Proof.Stage1

open Cert.KernelIdeal Cert.KernelIdeal.Gen

/-- The table as an array of words. -/
def words (X : Fin 2048 → Fin 32 → ℝ) : IVec S2048x16 32 := fun p => BitVec.ofNat 32 (Table.table X (p 0) (p 1)).val

/-- The blocks of the first stage's windows at every grid point. -/
theorem idx : ∀ t : Fin cfg0.N, win0_0.index t = ![(grid0.coords t 0).val, 0] ∧ win0_1.index t = ![0, 0] ∧ win0_2.index t = ![(grid0.coords t 0).val, 0] :=
  (by decide +kernel : ∀ t : Fin grid0.N, _)

variable (V : (c : Dev nD) → (b : Ref sig .tc) → Buf (Elt Ideal) ((c : Thread nD τ).loc b))

/-- At a grid point, what the body stores at an index of its block is the table's entry there. -/
theorem point (c : Dev nD) (X : Fin 2048 → Fin 32 → ℝ) (x : Vec Ideal S2048x32 .f32) (hx : V c main_arg0 = x)
    (hX : ∀ (i : Fin 2048) (k : Fin 32), x (ix2 i k) = ((X i k : ℝ) : EReal)) (t : Fin cfg0.N) (l : Fin 256) (r : Fin 16) :
    Rounds.picksV (k0_pay2 (grid0.coords t) (iblk0 V c 0 t) (iblk0 V c 1 t)) (ix2 l r) = words X (((cfg0.win 2).blk t).view.emb (ix2 l r)) := by
  have ht : (grid0.coords t 0).val < 8 := (grid0.coords t 0).isLt
  have hg : (grid0.coords t 0).val * 256 + l.val < 2048 := by have := l.isLt; omega
  refine (KerTable.picks_eq X (grid0.coords t) _ _ l ⟨_, hg⟩ rfl (fun k => ?_) (fun j k => ?_) r).trans ?_
  · refine Eq.trans ?_ (hX ⟨_, hg⟩ k)
    rw [← hx]
    blk_ext [iblk0, idx t]
  · refine Eq.trans ?_ (hX j k)
    rw [← hx]
    blk_ext [iblk0, idx t]
  · unfold words
    have e : ∀ p : S2048x16.Idx, p = ix2 ⟨_, hg⟩ r → BitVec.ofNat 32 (Table.table X ⟨_, hg⟩ r).val = BitVec.ofNat 32 (Table.table X (p 0) (p 1)).val := by
      rintro p rfl; rfl
    refine e _ ?_
    blk_ext [idx t]

/-- Of rows with real entries, the first stage leaves the table. -/
theorem final (c : Dev nD) (X : Fin 2048 → Fin 32 → ℝ) (x : Vec Ideal S2048x32 .f32) (hx : V c main_arg0 = x)
    (hX : ∀ (i : Fin 2048) (k : Fin 32), x (ix2 i k) = ((X i k : ℝ) : EReal)) : (dat0 V c).arrAt 2 cfg0.N = words X := by
  refine (dat0 V c).arrAt_eq_of_covers 2 _ (by decide +kernel) fun t _ y => ?_
  obtain ⟨l, r, rfl⟩ : ∃ (l : Fin 256) (r : Fin 16), y = ix2 l r := ⟨_, _, eq_ix2 (n0 := 256) (n1 := 16) y⟩
  blk_simp
  rw [after0_2, Rounds.out_eq]
  frame_out
  exact point V c X x hx hX t l r

end Cert.Proof.Stage1
-- ==== Proof.Graph.lean ====
module

public import Idealize.ShloMosaic.Lib.IdealHost
public import Idealize.ShloMosaic.Lib.Pipeline.ValueKit
public import proofs.«01_k».proof.Proof.Keys

@[expose] public section

set_option maxRecDepth 16384

noncomputable section

/-!
The graph of a table of neighbours: its adjacency matrix, made symmetric, and that matrix with each row divided by its sum.
-/

open Idealize.ShloMosaic
open scoped Classical

namespace Cert.Proof.Graph

/-- `i` and `j` are joined when either has the other among its neighbours. -/
def joined (τ : Fin 2048 → Fin 16 → Fin 2048) (i j : Fin 2048) : Prop := (∃ r, τ i r = j) ∨ ∃ r, τ j r = i

/-- The adjacency matrix: one where joined, zero elsewhere. -/
def adj (τ : Fin 2048 → Fin 16 → Fin 2048) (i j : Fin 2048) : ℝ := if joined τ i j then 1 else 0

/-- The number of rows joined to row `i`. -/
def deg (τ : Fin 2048 → Fin 16 → Fin 2048) (i : Fin 2048) : ℝ := ∑ j, adj τ i j

/-- Every row is joined to at least one. -/
theorem deg_pos (τ : Fin 2048 → Fin 16 → Fin 2048) (i : Fin 2048) : 0 < deg τ i := by
  have h0 : ∀ j ∈ Finset.univ, 0 ≤ adj τ i j := fun j _ => by unfold adj; split <;> norm_num
  refine lt_of_lt_of_le ?_ (Finset.single_le_sum h0 (Finset.mem_univ (τ i 0)))
  rw [show adj τ i (τ i 0) = 1 from if_pos (Or.inl ⟨0, rfl⟩)]
  norm_num

/-- The extended reals' sum of a row of the matrix is the row's degree. -/
theorem sum_adj (τ : Fin 2048 → Fin 16 → Fin 2048) (i : Fin 2048) : ∑ j, ((adj τ i j : ℝ) : EReal) = ((deg τ i : ℝ) : EReal) :=
  (Keys.coe_sum _ _).symm

/-- The normalized matrix: each entry times the inverse of its row's degree. -/
def norm (τ : Fin 2048 → Fin 16 → Fin 2048) (i j : Fin 2048) : ℝ := (deg τ i)⁻¹ * adj τ i j

/-- One divided by the degree is its inverse. -/
theorem div_deg (τ : Fin 2048 → Fin 16 → Fin 2048) (i : Fin 2048) : Ideal.div 1 ((deg τ i : ℝ) : EReal) = (((deg τ i)⁻¹ : ℝ) : EReal) := by
  unfold Ideal.div
  rw [if_neg (by exact_mod_cast (deg_pos τ i).ne'), one_mul, EReal.coe_inv]

/-- The degree to the power minus one is its inverse. -/
theorem pow_deg (τ : Fin 2048 → Fin 16 → Fin 2048) (i : Fin 2048) :
    Ideal.pow ((deg τ i : ℝ) : EReal) (((-1 : ℝ)) : EReal) = (((deg τ i)⁻¹ : ℝ) : EReal) := by
  show ((Real.rpow (deg τ i) (-1) : ℝ) : EReal) = _
  exact congrArg _ (Real.rpow_neg_one _)

end Cert.Proof.Graph
-- ==== Proof.Marks.lean ====
module

public import proofs.«01_k».proof.Proof.Gen.KernelIdeal.Frame
public import proofs.«01_k».proof.Proof.Graph
public import Idealize.ShloMosaic.Lib.Pipeline.ValueKit
public import Idealize.ShloMosaic.Lib.WordCmp
public import proofs.«01_k».proof.Proof.Words

@[expose] public section

set_option maxRecDepth 16384

noncomputable section

/-!
What the kernel's second stage stores at a grid point: the marks of the joined pairs, and the marks divided by their row's sum.
-/

open Idealize.ShloMosaic Idealize.ShloMosaic.TcCoe Idealize.SL.Sem

namespace Cert.Proof.Marks

open Cert.KernelIdeal Cert.KernelIdeal.Gen

/-- Column `t` lies in a block of sixteen. -/
theorem col_fits : ∀ t : Fin 16, S256x16.Slices ![0, t.val] S256x1 := by decide

/-- Line `t` lies in the transposed table. -/
theorem line_fits : ∀ (t : Fin 16) (a : Fin 2), (![t.val, 0] : Fin 2 → Nat) a + S1x2048.size a ≤ S16x2048.size a := by decide

/-- Neighbour `t` of the block's rows, laid along the rows. -/
def colV (x : Vec Ideal S256x16 .i32) (t : Fin 16) : IVec S256x2048 32 :=
  broadcastTo S256x2048 (shapeCast S256x1 (shapeCast S256 (extractStridedSlice S256x1 ![0, t.val] (k1_pay3 x) (col_fits t)) shapeCasts_S256x1_S256)
    shapeCasts_S256_S256x1) broadcasts_S256x1_S256x2048

/-- Line `t` of the transposed table. -/
def lineV (y : Vec Ideal S16x2048 .i32) (t : Fin 16) : Vec Ideal S1x2048 .i32 :=
  View.ld y (Rect.unit (s := S16x2048) ![t.val, 0] S1x2048.size (line_fits t))

/-- A line laid down the columns. -/
def downV (v : Vec Ideal S1x2048 .i32) : IVec S256x2048 32 :=
  broadcastTo S256x2048 (shapeCast S1x2048 (shapeCast S2048 v shapeCasts_S1x2048_S2048) shapeCasts_S2048_S1x2048) broadcasts_S1x2048_S256x2048

/-- The column numbers. -/
abbrev cols : IVec S256x2048 32 := iota .tc S256x2048 32 [1] iota_S256x2048_d1_w32

/-- The numbers of the block's rows. -/
def rowsV (i : grid1.Coords) : IVec S256x2048 32 := broadcastTo S256x2048 (k1_pay4 i) broadcasts_S256x1_S256x2048

/-- The marks after the first `n` neighbours: a pair is marked when one has the other among them. -/
def marksV (i : grid1.Coords) (x : Vec Ideal S256x16 .i32) (y : Vec Ideal S16x2048 .i32) : (n : ℕ) → n ≤ 16 → IVec S256x2048 1
  | 0, _ => broadcast S256x2048 0#1
  | n + 1, h => ori (ori (marksV i x y n (Nat.le_of_succ_le h)) (cmpi .eq (colV x ⟨n, h⟩) cols)) (cmpi .eq (downV (lineV y ⟨n, h⟩)) (rowsV i))

/-- The marks as numbers. -/
def adjV (i : grid1.Coords) (x : Vec Ideal S256x16 .i32) (y : Vec Ideal S16x2048 .i32) : FVec Ideal S256x2048 .f32 :=
  sitofp .f32 (extui 32 (marksV i x y 16 le_rfl) natLt_1_32)

/-- The marks divided by their row's sum. -/
def normV (a : FVec Ideal S256x2048 .f32) : FVec Ideal S256x2048 .f32 :=
  mulf a (broadcastTo S256x2048 (divf (broadcast S256x1 (Scalar.ofBits .f32 0x3F800000#32)) (shapeCast S256x1
    (multiReduction .add [1] S256 a 0x00000000#32 reduces_S256x2048_S256 (.inl rfl) rfl) shapeCasts_S256_S256x1)) broadcasts_S256x1_S256x2048)

/-- The second stage's first output block. -/
theorem out2_eq (i : grid1.Coords) (x : Vec Ideal S256x16 .i32) (y : Vec Ideal S16x2048 .i32) :
    out1_2 i x y = View.canon [⟨r1_17, adjV i (View.ld x r1_0) y⟩] := by
  unfold_out out1_2
  rfl

/-- The second stage's second output block. -/
theorem out3_eq (i : grid1.Coords) (x : Vec Ideal S256x16 .i32) (y : Vec Ideal S16x2048 .i32) :
    out1_3 i x y = View.canon [⟨r1_17, normV (adjV i (View.ld x r1_0) y)⟩] := by
  unfold_out out1_3
  rfl

/-- A laid column holds its row's neighbour. -/
theorem colV_at (x : Vec Ideal S256x16 .i32) (t : Fin 16) (l : Fin 256) (j : Fin 2048) : colV x t (ix2 l j) = x (ix2 l t) := by
  pointwise [colV, k1_pay3]

/-- A laid line holds its column's entry of the transposed table. -/
theorem downV_at (y : Vec Ideal S16x2048 .i32) (t : Fin 16) (l : Fin 256) (j : Fin 2048) : downV (lineV y t) (ix2 l j) = y (ix2 t j) := by
  pointwise [downV, lineV]

/-- The number of a block's row. -/
theorem rowsV_at (i : grid1.Coords) (l : Fin 256) (j : Fin 2048) (g : Fin 2048) (hg : g.val = (i 0).val * 256 + l.val) :
    rowsV i (ix2 l j) = BitVec.ofNat 32 g.val := by
  pointwise [rowsV, k1_pay4]
  rw [hg]
  show BitVec.ofNat 32 (i 0).val * 256#32 + BitVec.ofNat 32 l.val = _
  rw [BitVec.ofNat_add, BitVec.ofNat_mul]

/-- The number of a column. -/
theorem cols_at (l : Fin 256) (j : Fin 2048) : cols (ix2 l j) = BitVec.ofNat 32 j.val := by
  pointwise

/-- The disjunction of two truth values, as bits. -/
theorem ori_ofBool (p q : Prop) [Decidable p] [Decidable q] :
    IntOp.ori (BitVec.ofBool (decide p)) (BitVec.ofBool (decide q)) = BitVec.ofBool (decide (p ∨ q)) := by
  by_cases hp : p <;> by_cases hq : q <;> simp [hp, hq, IntOp.ori]

open scoped Classical in
/-- After the first `n` neighbours, a pair is marked when one of its rows has the other among them. -/
theorem marksV_at (τ : Fin 2048 → Fin 16 → Fin 2048) (i : grid1.Coords) (x : Vec Ideal S256x16 .i32) (y : Vec Ideal S16x2048 .i32)
    (l : Fin 256) (g j : Fin 2048) (hg : g.val = (i 0).val * 256 + l.val) (hx : ∀ t : Fin 16, x (ix2 l t) = BitVec.ofNat 32 (τ g t).val)
    (hy : ∀ (t : Fin 16) (j : Fin 2048), y (ix2 t j) = BitVec.ofNat 32 (τ j t).val) (n : ℕ) (hn : n ≤ 16) :
    marksV i x y n hn (ix2 l j) = BitVec.ofBool (decide (∃ t : Fin 16, t.val < n ∧ (τ g t = j ∨ τ j t = g))) := by
  induction n with
  | zero =>
    rw [decide_eq_false (by rintro ⟨t, h, -⟩; exact absurd h (Nat.not_lt_zero _))]
    rfl
  | succ n ih =>
    show IntOp.ori (IntOp.ori (marksV i x y n (Nat.le_of_succ_le hn) (ix2 l j)) (IntOp.cmpi .eq (colV x ⟨n, hn⟩ (ix2 l j)) (cols (ix2 l j))))
      (IntOp.cmpi .eq (downV (lineV y ⟨n, hn⟩) (ix2 l j)) (rowsV i (ix2 l j))) = _
    rw [ih, colV_at, cols_at, downV_at, rowsV_at i l j g hg, hx, hy, WordCmp.cmpi_eq_eq, WordCmp.cmpi_eq_eq, ori_ofBool, ori_ofBool]
    refine congrArg BitVec.ofBool (decide_eq_decide.mpr ?_)
    rw [Words.word_inj, Words.word_inj]
    constructor
    · rintro ((⟨t, ht, h⟩ | h) | h)
      · exact ⟨t, by omega, h⟩
      · exact ⟨⟨n, hn⟩, Nat.lt_succ_self n, Or.inl h⟩
      · exact ⟨⟨n, hn⟩, Nat.lt_succ_self n, Or.inr h⟩
    · rintro ⟨t, ht, h⟩
      rcases Nat.lt_succ_iff_lt_or_eq.mp ht with ht | ht
      · exact Or.inl (Or.inl ⟨t, ht, h⟩)
      · obtain rfl : t = ⟨n, hn⟩ := Fin.ext ht
        exact h.elim (fun h => Or.inl (Or.inr h)) Or.inr

/-- The marks as numbers are the graph's adjacency matrix. -/
theorem adjV_at (τ : Fin 2048 → Fin 16 → Fin 2048) (i : grid1.Coords) (x : Vec Ideal S256x16 .i32) (y : Vec Ideal S16x2048 .i32)
    (l : Fin 256) (g j : Fin 2048) (hg : g.val = (i 0).val * 256 + l.val) (hx : ∀ t : Fin 16, x (ix2 l t) = BitVec.ofNat 32 (τ g t).val)
    (hy : ∀ (t : Fin 16) (j : Fin 2048), y (ix2 t j) = BitVec.ofNat 32 (τ j t).val) :
    adjV i x y (ix2 l j) = ((Graph.adj τ g j : ℝ) : EReal) := by
  classical
  pointwise [adjV]
  rw [marksV_at τ i x y l g j hg hx hy]
  show (((BitVec.setWidth 32 (BitVec.ofBool (decide (∃ t : Fin 16, t.val < 16 ∧ (τ g t = j ∨ τ j t = g))))).toInt : ℝ) : EReal) = _
  refine congrArg _ ?_
  have e : (∃ t : Fin 16, t.val < 16 ∧ (τ g t = j ∨ τ j t = g)) ↔ Graph.joined τ g j :=
    ⟨fun ⟨t, _, h⟩ => h.imp (fun h => ⟨t, h⟩) fun h => ⟨t, h⟩, fun h => h.elim (fun ⟨t, h⟩ => ⟨t, t.isLt, Or.inl h⟩) fun ⟨t, h⟩ => ⟨t, t.isLt, Or.inr h⟩⟩
  rw [decide_eq_decide.mpr e]
  unfold Graph.adj
  by_cases h : Graph.joined τ g j
  · rw [if_pos h, decide_eq_true h, show (BitVec.setWidth 32 (BitVec.ofBool true)).toInt = 1 from by decide]
    norm_num
  · rw [if_neg h, decide_eq_false h]
    norm_num

/-- The marks divided by their row's sum are the normalized matrix. -/
theorem normV_at (τ : Fin 2048 → Fin 16 → Fin 2048) (a : Vec Ideal S256x2048 .f32) (l : Fin 256) (g j : Fin 2048)
    (ha : ∀ j : Fin 2048, a (ix2 l j) = ((Graph.adj τ g j : ℝ) : EReal)) : normV a (ix2 l j) = ((Graph.norm τ g j : ℝ) : EReal) := by
  pointwise [normV]
  simp only [ha]
  rw [Graph.sum_adj, Graph.div_deg, ← EReal.coe_mul, mul_comm]
  rfl

end Cert.Proof.Marks
-- ==== Proof.Stage2.lean ====
module

public import proofs.«01_k».proof.Proof.Marks

@[expose] public section

set_option maxRecDepth 16384

noncomputable section

/-!
What the kernel's second stage leaves in its output arrays: the adjacency matrix of the table's graph and its normalization.
-/

open Idealize.ShloMosaic Idealize.ShloMosaic.TcCoe Idealize.SL.Sem

namespace Cert.Proof.Stage2

open Cert.KernelIdeal Cert.KernelIdeal.Gen

/-- The adjacency matrix as an array. -/
def adjA (τ : Fin 2048 → Fin 16 → Fin 2048) : FVec Ideal S2048x2048 .f32 := fun p => ((Graph.adj τ (p 0) (p 1) : ℝ) : EReal)

/-- The normalized matrix as an array. -/
def normA (τ : Fin 2048 → Fin 16 → Fin 2048) : FVec Ideal S2048x2048 .f32 := fun p => ((Graph.norm τ (p 0) (p 1) : ℝ) : EReal)

/-- The blocks of the second stage's windows at every grid point. -/
theorem idx : ∀ t : Fin cfg1.N, win1_0.index t = ![(grid1.coords t 0).val, 0] ∧ win1_1.index t = ![0, 0] ∧ win1_2.index t = ![(grid1.coords t 0).val, 0]
    ∧ win1_3.index t = ![(grid1.coords t 0).val, 0] :=
  (by decide +kernel : ∀ t : Fin grid1.N, _)

/-- The row that line `l` of a grid point's blocks is. -/
def row (t : Fin cfg1.N) (l : Fin 256) : Fin 2048 :=
  ⟨(grid1.coords t 0).val * 256 + l.val, by have ht : (grid1.coords t 0).val < 8 := (grid1.coords t 0).isLt; have := l.isLt; omega⟩

variable (V : (c : Dev nD) → (b : Ref sig .tc) → Buf (Elt Ideal) ((c : Thread nD τ).loc b))

section
variable (c : Dev nD) (σ : Fin 2048 → Fin 16 → Fin 2048) (x : Vec Ideal S2048x16 .i32) (y : Vec Ideal S16x2048 .i32)
  (hx : V c main_call0_v0 = x) (hy : V c main_call0_v1 = y)
  (hX : ∀ (i : Fin 2048) (r : Fin 16), x (ix2 i r) = BitVec.ofNat 32 (σ i r).val)
  (hY : ∀ (r : Fin 16) (i : Fin 2048), y (ix2 r i) = BitVec.ofNat 32 (σ i r).val)
include hx hy hX hY

/-- At a grid point, the marks are the rows' part of the adjacency matrix. -/
theorem marks_at (t : Fin cfg1.N) (l : Fin 256) (j : Fin 2048) :
    Marks.adjV (grid1.coords t) (iblk1 V c 0 t) (iblk1 V c 1 t) (ix2 l j) = ((Graph.adj σ (row t l) j : ℝ) : EReal) := by
  refine Marks.adjV_at σ (grid1.coords t) _ _ l (row t l) j rfl (fun r => ?_) (fun r k => ?_)
  · refine Eq.trans ?_ (hX (row t l) r)
    rw [← hx]
    blk_ext [iblk1, idx t, row]
  · refine Eq.trans ?_ (hY r k)
    rw [← hy]
    blk_ext [iblk1, idx t]

/-- The second stage's first output array is the adjacency matrix. -/
theorem final2 : (dat1 V c).arrAt 2 cfg1.N = adjA σ := by
  refine (dat1 V c).arrAt_eq_of_covers 2 _ (by decide +kernel) fun t _ p => ?_
  obtain ⟨l, j, rfl⟩ : ∃ (l : Fin 256) (j : Fin 2048), p = ix2 l j := ⟨_, _, eq_ix2 (n0 := 256) (n1 := 2048) p⟩
  blk_simp
  rw [after1_2, Marks.out2_eq]
  frame_out
  refine (marks_at V c σ x y hx hy hX hY t l j).trans ?_
  have e : ∀ p : S2048x2048.Idx, p = ix2 (row t l) j → ((Graph.adj σ (row t l) j : ℝ) : EReal) = adjA σ p := by
    rintro p rfl; rfl
  refine e _ ?_
  blk_ext [idx t, row]

/-- The second stage's second output array is the normalized matrix. -/
theorem final3 : (dat1 V c).arrAt 3 cfg1.N = normA σ := by
  refine (dat1 V c).arrAt_eq_of_covers 3 _ (by decide +kernel) fun t _ p => ?_
  obtain ⟨l, j, rfl⟩ : ∃ (l : Fin 256) (j : Fin 2048), p = ix2 l j := ⟨_, _, eq_ix2 (n0 := 256) (n1 := 2048) p⟩
  blk_simp
  rw [after1_3, Marks.out3_eq]
  frame_out
  refine (Marks.normV_at σ _ l (row t l) j (fun k => marks_at V c σ x y hx hy hX hY t l k)).trans ?_
  have e : ∀ p : S2048x2048.Idx, p = ix2 (row t l) j → ((Graph.norm σ (row t l) j : ℝ) : EReal) = normA σ p := by
    rintro p rfl; rfl
  refine e _ ?_
  blk_ext [idx t, row]

end

end Cert.Proof.Stage2
-- ==== Proof.KerRun.lean ====
module

public import proofs.«01_k».proof.Proof.Gen.KernelIdeal.Frame
public import Idealize.ShloMosaic.Lib.Pipeline.ValueKit

@[expose] public section

set_option maxRecDepth 16384

noncomputable section

/-!
The kernel's run: every buffer the program declares outside its stages ends at what the two stages and the transposition between them leave.
-/

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Proof.KerRun

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every execution ends with each buffer at the second stage's exit contents. -/
theorem buffers : θ_run defs (onTc (τ := τ) (main (F := F))) ⟨m, fun _ => 0, ρ⟩ (fun r => ∀ (c : Dev nD), ∀ b ∈ Pipeline.ucRefs τ sig,
      r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun _ h _ => h)

/-- The two results end at what the second stage leaves in its output arrays, the argument as launched. -/
theorem run : θ_run defs (onTc (τ := τ) (main (F := F))) ⟨m, fun _ => 0, ρ⟩ (fun r => ∀ c : Dev nD,
      r.2.mem ((c.tc : Thread nD τ).loc main_v0_0) = (dat1 (V2 m ρ) c).arrAt 2 cfg1.N
      ∧ r.2.mem ((c.tc : Thread nD τ).loc main_v0_1) = (dat1 (V2 m ρ) c).arrAt 3 cfg1.N
      ∧ r.2.mem ((c.tc : Thread nD τ).loc main_arg0) = m ((c.tc : Thread nD τ).loc main_arg0)) :=
  (θ_run defs _ _).mono (fun _ h c =>
      ⟨(h c _ (mem_uc main_v0_0 (by decide))).trans (W3_arr m ρ c 2), (h c _ (mem_uc main_v0_1 (by decide))).trans (W3_arr m ρ c 3),
        (h c _ (mem_uc main_arg0 (by decide))).trans (W3_main_arg0 m ρ c)⟩)
    (buffers m ρ)

end Cert.Proof.KerRun
-- ==== Proof.KerValue.lean ====
module

public import proofs.«01_k».proof.Proof.Stage1
public import proofs.«01_k».proof.Proof.Stage2
public import proofs.«01_k».proof.Proof.KerRun

@[expose] public section

set_option maxRecDepth 16384

noncomputable section

/-!
The kernel's two results: the adjacency matrix of the neighbours' graph and its normalization.
-/

open Idealize.ShloMosaic Idealize.ShloMosaic.TcCoe Idealize.SL.Sem

namespace Cert.Proof.KerValue

open Cert.KernelIdeal Cert.KernelIdeal.Gen

/-- The transposed table. -/
def wordsT (X : Fin 2048 → Fin 32 → ℝ) : IVec S16x2048 32 := transpose S16x2048 [1, 0] (Stage1.words X) transposes_S2048x16_S16x2048_1_0

section
variable (m : (ℓ : Loc nD τ sig) → Buf (Elt Ideal) ℓ) (ρ : Dev nD → PrngReg) (c : Dev nD) (X : Fin 2048 → Fin 32 → ℝ)
  (x : Vec Ideal S2048x32 .f32) (hx : m ((c.tc : Thread nD τ).loc main_arg0) = x)
  (hX : ∀ (i : Fin 2048) (k : Fin 32), x (ix2 i k) = ((X i k : ℝ) : EReal))
include hx hX

/-- Between the stages the first stage's output array holds the table. -/
theorem entry0 : V2 m ρ c main_call0_v0 = Stage1.words X :=
  (W2_of m ρ c main_call0_v0 (by decide)).trans ((W1_arr m ρ c 2).trans (Stage1.final (V0 m ρ) c X x hx hX))

/-- Between the stages the host transposes the table. -/
theorem entry1 : V2 m ρ c main_call0_v1 = wordsT X := by
  have h : V2 m ρ c main_call0_v1 = transpose S16x2048 [1, 0] (W1 m ρ c (Proc.devRef .tc main_call0_v0) : IVec S2048x16 32) transposes_S2048x16_S16x2048_1_0 := by
    show StableHlo.after hostOps1 (W1 m ρ c) (Proc.devRef .tc main_call0_v1) = _
    simp only [hostOps1, StableHlo.TRef.unary, StableHlo.TRef.toBuf, StableHlo.TRef.ofBuf, cast_eq]
    after_results_simp
    all_goals rfl
  rw [h, show W1 m ρ c (Proc.devRef .tc main_call0_v0) = Stage1.words X from (W1_arr m ρ c 2).trans (Stage1.final (V0 m ρ) c X x hx hX)]
  rfl

/-- The first result. -/
theorem result0 : (dat1 (V2 m ρ) c).arrAt 2 cfg1.N = Stage2.adjA (Table.table X) :=
  Stage2.final2 (V2 m ρ) c (Table.table X) _ _ (entry0 m ρ c X x hx hX) (entry1 m ρ c X x hx hX) (fun _ _ => rfl)
    (fun r i => by pointwise [wordsT]; rfl)

/-- The second result. -/
theorem result1 : (dat1 (V2 m ρ) c).arrAt 3 cfg1.N = Stage2.normA (Table.table X) :=
  Stage2.final3 (V2 m ρ) c (Table.table X) _ _ (entry0 m ρ c X x hx hX) (entry1 m ρ c X x hx hX) (fun _ _ => rfl)
    (fun r i => by pointwise [wordsT]; rfl)

end

end Cert.Proof.KerValue
-- ==== Proof.TopK.lean ====
module

public import proofs.«01_k».proof.Proof.Rank
public import Idealize.ShloMosaic.Lib.ValueIdx

@[expose] public section

noncomputable section

/-!
The positions of a row's greatest entries, as a sort of the row gives them.
-/

namespace Cert.Proof.TopK

open Idealize.ShloMosaic Idealize.ShloMosaic.ValueIdx

variable {A B C : ℕ}

/-- An index of a matrix with its second coordinate replaced. -/
def along (jj : (⟨2, ![A, B]⟩ : Shape).Idx) (k : Fin B) : (⟨2, ![A, B]⟩ : Shape).Idx := Shape.Idx.along jj (1 : Fin 2) k

/-- Row `i` with its second coordinate replaced. -/
theorem along_row (jj : (⟨2, ![A, B]⟩ : Shape).Idx) (i : Fin A) (h : (jj 0 : Fin A) = i) (k : Fin B) :
    along jj k = ix2 i k := by
  subst h
  unfold along
  funext d
  match d with
  | ⟨0, _⟩ => exact Function.update_of_ne (by rw [ne_eq, Fin.ext_iff]; exact Nat.zero_ne_one) _ _
  | ⟨1, _⟩ => exact Function.update_self _ _ _

/-- Entry `r` of row `i` of the greatest entries' positions is the sorted row's position at `r`. -/
theorem topK_at {α : Type} (gt : α → α → BitVec 1) (hk : C ≤ B) (x : (⟨2, ![A, B]⟩ : Shape).Idx → α)
    (h : (⟨2, ![A, B]⟩ : Shape).Slices (fun _ => 0) (⟨2, ![A, C]⟩ : Shape)) (i : Fin A) (r : Fin C) :
    (Host.topK (⟨2, ![A, C]⟩ : Shape) 1 gt x h).2 (ix2 i r)
      = BitVec.ofNat 32 (sortedFrom (fun a b : Fin B => gt (x (ix2 i a)) (x (ix2 i b)) == 1#1) (r.castLE hk)).val := by
  obtain ⟨jj, h0, h1, he⟩ : ∃ jj : (⟨2, ![A, B]⟩ : Shape).Idx, (jj 0 : Fin A) = i ∧ (jj 1 : Fin B) = r.castLE hk
      ∧ (Host.topK (⟨2, ![A, C]⟩ : Shape) 1 gt x h).2 (ix2 i r)
        = BitVec.ofNat 32 (along jj (sortedFrom (fun a b : Fin B =>
            gt (x (along jj a)) (x (along jj b)) == 1#1) (jj 1 : Fin B)) (1 : Fin 2)).val :=
    ⟨_, Fin.ext (Nat.zero_add _), Fin.ext (Nat.zero_add _), rfl⟩
  rw [he, h1]
  simp only [along_row jj i h0]

end Cert.Proof.TopK
-- ==== Proof.RefTerms.lean ====
module

public import proofs.«01_k».proof.Proof.Gen.ReferenceIdeal.Run
public import proofs.«01_k».proof.Proof.Keys
public import proofs.«01_k».proof.Proof.TopK
public import Idealize.ShloMosaic.Lib.Pipeline.ValueKit
public import Idealize.ShloMosaic.Lib.WordCmp
public import proofs.«01_k».proof.Proof.Words

@[expose] public section

set_option maxRecDepth 16384

noncomputable section

/-!
The reference's two results, as terms of the argument array, in named steps.
-/

open Idealize.ShloMosaic Idealize.ShloMosaic.TcCoe Idealize.SL.Sem

namespace Cert.Proof.RefTerms

open Cert.ReferenceIdeal Cert.ReferenceIdeal.Gen

/-- The differences of all pairs of rows. -/
def diffs (x : FVec Ideal S2048x32 .f32) : FVec Ideal S2048x2048x32 .f32 :=
  subf (broadcastInDim S2048x2048x32 ![0, 1, 2] bcast_S2048x1x32_S2048x2048x32_0_1_2 (broadcastInDim S2048x1x32 ![0, 2] bcast_S2048x32_S2048x1x32_0_2 x))
    (broadcastInDim S2048x2048x32 ![0, 1, 2] bcast_S1x2048x32_S2048x2048x32_0_1_2 (broadcastInDim S1x2048x32 ![1, 2] bcast_S2048x32_S1x2048x32_1_2 x))

/-- The mask of the diagonal. -/
def diag : IVec S2048x2048 1 :=
  cmpi .eq (addi (iotaInDim S2048x2048 32 0) (broadcastInDim S2048x2048 ![] bcast_S_S2048x2048 (constantI S_ 32 0#32))) (iotaInDim S2048x2048 32 1)

/-- The similarities of all pairs of rows, −∞ on the diagonal. -/
def sims (x : FVec Ideal S2048x32 .f32) : FVec Ideal S2048x2048 .f32 :=
  select diag (broadcastInDim S2048x2048 ![] bcast_S_S2048x2048 (id (constant S_ .f32 0xFF800000#32)))
    (Host.exp (Host.divf (Host.negf (Host.reduceAdd (mulf (diffs x) (diffs x)) (constant S_ .f32 0x00000000#32) reducesTo_S2048x2048x32_S2048x2048_d2 h_S_))
      (broadcastInDim S2048x2048 ![] bcast_S_S2048x2048 (constant S_ .f32 0x3F800000#32))))

/-- Each row's sixteen neighbours: the columns of its greatest similarities. -/
def nbrs (x : FVec Ideal S2048x32 .f32) : IVec S2048x16 32 :=
  (Host.topK S2048x16 1 (FloatOps.cmpfTotal .gt) (sims x) sliceFits_S2048x2048_S2048x16).2

/-- The row numbers, one per neighbour. -/
def rows : IVec S2048x16 32 :=
  broadcastInDim S2048x16 ![0, 1] bcast_S2048x1_S2048x16_0_1 (broadcastInDim S2048x1 ![0] bcast_S2048_S2048x1_0 (iotaInDim S2048 32 0))

/-- A negative index counts from the end. -/
def wrap (a : IVec S2048x16 32) : IVec S2048x16 32 :=
  select (cmpi .slt a (broadcastInDim S2048x16 ![] bcast_S_S2048x16 (constantI S_ 32 0#32)))
    (addi a (broadcastInDim S2048x16 ![] bcast_S_S2048x16 (constantI S_ 32 2048#32))) a

/-- The pairs of two arrays of indices. -/
def pairs (a b : IVec S2048x16 32) : IVec S2048x16x2 32 :=
  concatenate S2048x16x2 2 [⟨S2048x16x1, broadcastInDim S2048x16x1 ![0, 1] bcast_S2048x16_S2048x16x1_0_1 (wrap a)⟩,
    ⟨S2048x16x1, broadcastInDim S2048x16x1 ![0, 1] bcast_S2048x16_S2048x16x1_0_1 (wrap b)⟩] concatenates_S2048x16x1_S2048x16x1_S2048x16x2_d2

/-- Ones put at the pairs of indices. -/
def mark (z : FVec Ideal S2048x2048 .f32) (p : IVec S2048x16x2 32) : FVec Ideal S2048x2048 .f32 :=
  Host.scatter scatter_S2048x2048_S2048x16x2_S2048x16_n_01_01_2 (fun _ b => b) z p (broadcastInDim S2048x16 ![] bcast_S_S2048x16 (constant S_ .f32 0x3F800000#32))

/-- The adjacency matrix of the neighbours `t`, made symmetric. -/
def adj (t : IVec S2048x16 32) : FVec Ideal S2048x2048 .f32 :=
  mark (mark (broadcastInDim S2048x2048 ![] bcast_S_S2048x2048 (constant S_ .f32 0x00000000#32)) (pairs rows t)) (pairs t rows)

/-- The inverses of a matrix's row sums. -/
def sumInv (a : FVec Ideal S2048x2048 .f32) : FVec Ideal S2048 .f32 :=
  Host.powf (Host.reduceAdd a (constant S_ .f32 0x00000000#32) reducesTo_S2048x2048_S2048_d1 h_S_) (broadcastInDim S2048 ![] bcast_S_S2048 (constant S_ .f32 0xBF800000#32))

/-- The inverses, zero where they are infinite, on the diagonal of a matrix. -/
def diagInv (a : FVec Ideal S2048x2048 .f32) : FVec Ideal S2048x2048 .f32 :=
  select diag (broadcastInDim S2048x2048 ![0, 1] bcast_S2048x1_S2048x2048_0_1 (broadcastInDim S2048x1 ![0] bcast_S2048_S2048x1_0
      (pad S2048 ![0] ![0] ![0] (select (cmpf .oeq (Host.absf (sumInv a)) (broadcastInDim S2048 ![] bcast_S_S2048 (constant S_ .f32 0x7F800000#32)))
        (broadcastInDim S2048 ![] bcast_S_S2048 (id (constant S_ .f32 0x00000000#32))) (sumInv a)) (constant S_ .f32 0x00000000#32) pads_S2048_S2048_000 h_S_)))
    (broadcastInDim S2048x2048 ![] bcast_S_S2048x2048 (constant S_ .f32 0x00000000#32))

/-- The matrix with each row divided by its sum. -/
def norm (a : FVec Ideal S2048x2048 .f32) : FVec Ideal S2048x2048 .f32 :=
  Host.dotGeneral dot_S2048x2048_S2048x2048_S2048x2048_1_0_0_1_n_n none (diagInv a) a

/-- The reference's first result is the adjacency matrix of the neighbours. -/
theorem out0_eq (m : (ℓ : Loc nD τ sig) → Buf (Elt Ideal) ℓ) (c : Dev nD) :
    Value.res_out0 m c = adj (nbrs (m ((c.tc : Thread nD τ).loc main_arg0))) := rfl

/-- The reference's second result is that matrix normalized. -/
theorem out1_eq (m : (ℓ : Loc nD τ sig) → Buf (Elt Ideal) ℓ) (c : Dev nD) :
    Value.res_out1 m c = norm (adj (nbrs (m ((c.tc : Thread nD τ).loc main_arg0)))) := rfl

/-! ## Reads -/

/-- Of an argument with real entries, the similarities are the exponentials of minus the squared distances. -/
theorem sims_at (X : Fin 2048 → Fin 32 → ℝ) (x : FVec Ideal S2048x32 .f32) (hX : ∀ (i : Fin 2048) (k : Fin 32), x (ix2 i k) = ((X i k : ℝ) : EReal))
    (i j : Fin 2048) : sims x (ix2 i j) = Keys.refKey X i j := by
  pointwise [sims, diag, diffs]
  rw [WordCmp.cmpi_eq_eq, WordCmp.select_decide, show IntOp.addi (BitVec.ofNat 32 i.val) 0#32 = BitVec.ofNat 32 i.val from BitVec.add_zero _]
  unfold Keys.refKey
  by_cases h : j = i
  · rw [if_pos h, if_pos ((Words.word_inj _ _).mpr h.symm)]
    exact Words.ofBits_bot
  · rw [if_neg h, if_neg (fun e => h ((Words.word_inj _ _).mp e).symm)]
    simp only [hX, ← EReal.coe_mul, ← EReal.coe_sub, ← Keys.coe_sum, ← EReal.coe_neg]
    unfold Ideal.div
    rw [if_neg one_ne_zero, inv_one, mul_one]
    rfl

/-- Neighbour `r` of row `i` is the position that a sort of the row, greatest first, puts at `r`. -/
theorem nbrs_at (x : FVec Ideal S2048x32 .f32) (i : Fin 2048) (r : Fin 16) :
    nbrs x (ix2 i r) = BitVec.ofNat 32 (sortedFrom (fun a b : Fin 2048 => FloatOps.cmpfTotal .gt (sims x (ix2 i a)) (sims x (ix2 i b)) == 1#1)
      (r.castLE (by decide))).val := by
  exact TopK.topK_at _ (by decide) _ _ i r

end Cert.Proof.RefTerms
-- ==== Proof.RefGraph.lean ====
module

public import proofs.«01_k».proof.Proof.RefTerms
public import proofs.«01_k».proof.Proof.Graph
public import Idealize.ShloMosaic.Lib.Routing.OpsPair
public import Idealize.ShloMosaic.Lib.WordArith
public import Idealize.ShloMosaic.Lib.IdealHost
public import Idealize.ShloMosaic.Lib.Pointwise.IndexBridge
public import proofs.«01_k».proof.Proof.Words

@[expose] public section

set_option maxRecDepth 16384

noncomputable section

/-!
The reference's two results are the adjacency matrix of the neighbours' graph and its normalization.
-/

open Idealize.ShloMosaic Idealize.ShloMosaic.TcCoe Idealize.SL.Sem

namespace Cert.Proof.RefGraph

open Cert.ReferenceIdeal Cert.ReferenceIdeal.Gen Cert.Proof.RefTerms
open scoped Classical

/-- A left fold that at some of its steps sets one value: that value when there is such a step, the start otherwise. -/
theorem foldl_set {α β : Type} (P : β → Prop) [DecidablePred P] (v : α) (l : List β) (z : α) :
    l.foldl (fun a n => if P n then v else a) z = if ∃ n ∈ l, P n then v else z := by
  induction l generalizing z with
  | nil => simp
  | cons n l ih =>
    rw [List.foldl_cons, ih]
    by_cases h : P n <;> simp [h]

/-- A scatter that sets one value everywhere it lands. -/
theorem scatter_set {α : Type} {s si u : Shape} {w : Nat} (d : ScatterDims s si u) (x : s.Idx → α) (idx : IVec si w) (upd : u.Idx → α) (v : α)
    (hv : ∀ n, upd n = v) (p : s.Idx) :
    Host.scatter d (fun _ b => b) x idx upd p = if ∃ n, d.resultIdx? n idx = some p then v else x p := by
  rw [Routing.scatter_at]
  simp only [hv]
  rw [foldl_set]
  by_cases h : ∃ n, d.resultIdx? n idx = some p
  · obtain ⟨n, hn⟩ := h
    rw [if_pos ⟨u.rowMajor n, List.mem_finRange _, by rwa [Equiv.symm_apply_apply]⟩, if_pos ⟨n, hn⟩]
  · rw [if_neg fun ⟨n, _, hn⟩ => h ⟨_, hn⟩, if_neg h]

/-- The sign-wrapped word of a number below 2048 is itself. -/
theorem wrap_word (w : BitVec 32) (a : Fin 2048) (h : w = BitVec.ofNat 32 a.val) :
    (Scalar.select (IntOp.cmpi .slt w 0#32) (IntOp.addi w 2048#32) w).toInt = a.val := by
  have ha := a.isLt
  subst h
  rw [WordCmp.cmpi_slt_zero, WordCmp.select_decide, if_neg (by rw [BitVec.toNat_ofNat]; omega)]
  exact StableHlo.Predicate.toInt_ofNat_small _ (by omega)

/-- Component 0 of a pair, read signed. -/
theorem pairs_0 (a b : IVec S2048x16 32) (i : Fin 2048) (r : Fin 16) (n : Fin 2048) (h : a (ix2 i r) = BitVec.ofNat 32 n.val) :
    (pairs a b (ix3 i r 0)).toInt = n.val := by
  pointwise [pairs, wrap]
  exact wrap_word _ _ h

/-- Component 1 of a pair, read signed. -/
theorem pairs_1 (a b : IVec S2048x16 32) (i : Fin 2048) (r : Fin 16) (n : Fin 2048) (h : b (ix2 i r) = BitVec.ofNat 32 n.val) :
    (pairs a b (ix3 i r 1)).toInt = n.val := by
  pointwise [pairs, wrap]
  exact wrap_word _ _ h

/-- The row numbers. -/
theorem rows_at (i : Fin 2048) (r : Fin 16) : rows (ix2 i r) = BitVec.ofNat 32 i.val := by
  pointwise [rows]

/-- Marked pairs hold one, the others what they held. -/
theorem mark_at (z : FVec Ideal S2048x2048 .f32) (p : IVec S2048x16x2 32) (α β : Fin 2048 → Fin 16 → Fin 2048)
    (h0 : ∀ (i : Fin 2048) (r : Fin 16), (p (ix3 i r 0)).toInt = (α i r).val) (h1 : ∀ (i : Fin 2048) (r : Fin 16), (p (ix3 i r 1)).toInt = (β i r).val)
    (i j : Fin 2048) :
    mark z p (ix2 i j) = if ∃ (a : Fin 2048) (r : Fin 16), α a r = i ∧ β a r = j then (1 : EReal) else z (ix2 i j) := by
  unfold mark
  rw [scatter_set _ _ _ _ (1 : EReal) (fun n => by obtain ⟨a, r, rfl⟩ : ∃ (a : Fin 2048) (r : Fin 16), n = ix2 a r := ⟨_, _, eq_ix2 n⟩; pointwise)]
  refine if_congr ?_ rfl rfl
  have hl : ∀ (a : Fin 2048) (r : Fin 16), scatter_S2048x2048_S2048x16x2_S2048x16_n_01_01_2.resultIdx? (ix2 a r) p = some (ix2 i j) ↔ α a r = i ∧ β a r = j := by
    intro a r
    refine (Routing.scatter_lands2 (R := 2048) (C := 2048) (A := 2048) (B := 16) _ rfl rfl rfl p a r i j).trans ?_
    rw [← ix3_eq_valueIdx, ← ix3_eq_valueIdx, h0, h1, Int.natCast_inj, Int.natCast_inj, Fin.val_inj, Fin.val_inj]
  constructor
  · rintro ⟨n, hn⟩
    obtain ⟨a, r, rfl⟩ : ∃ (a : Fin 2048) (r : Fin 16), n = ix2 a r := ⟨_, _, eq_ix2 n⟩
    exact ⟨a, r, (hl a r).mp hn⟩
  · rintro ⟨a, r, h⟩
    exact ⟨ix2 a r, (hl a r).mpr h⟩

/-- The adjacency matrix of a table of neighbours. -/
theorem adj_at (t : IVec S2048x16 32) (τ : Fin 2048 → Fin 16 → Fin 2048) (ht : ∀ (i : Fin 2048) (r : Fin 16), t (ix2 i r) = BitVec.ofNat 32 (τ i r).val)
    (i j : Fin 2048) : adj t (ix2 i j) = ((Graph.adj τ i j : ℝ) : EReal) := by
  unfold adj
  rw [mark_at _ (pairs t rows) τ (fun a _ => a) (fun a r => pairs_0 _ _ a r _ (ht a r)) (fun a r => pairs_1 _ _ a r a (rows_at a r)),
    mark_at _ (pairs rows t) (fun a _ => a) τ (fun a r => pairs_0 _ _ a r a (rows_at a r)) (fun a r => pairs_1 _ _ a r _ (ht a r))]
  have hz : broadcastInDim S2048x2048 ![] bcast_S_S2048x2048 (constant (F := Ideal) S_ .f32 0x00000000#32) (ix2 i j) = (0 : EReal) := by pointwise
  rw [hz]
  unfold Graph.adj Graph.joined
  by_cases h1 : ∃ r, τ i r = j
  · obtain ⟨r, rfl⟩ := h1
    rw [if_pos (⟨i, r, rfl, rfl⟩ : ∃ (a : Fin 2048) (r' : Fin 16), a = i ∧ τ a r' = τ i r), if_pos (Or.inl ⟨r, rfl⟩), ite_self]
    rfl
  · rw [if_neg (fun ⟨a, r, ha, hr⟩ => h1 ⟨r, by rw [← ha]; exact hr⟩ : ¬ ∃ (a : Fin 2048) (r' : Fin 16), a = i ∧ τ a r' = j)]
    by_cases h2 : ∃ r, τ j r = i
    · obtain ⟨r, rfl⟩ := h2
      rw [if_pos (⟨j, r, rfl, rfl⟩ : ∃ (a : Fin 2048) (r' : Fin 16), τ a r' = τ j r ∧ a = j), if_pos (Or.inr ⟨r, rfl⟩)]
      rfl
    · rw [if_neg (fun ⟨a, r, ha, hr⟩ => h2 ⟨r, by rw [← hr]; exact ha⟩ : ¬ ∃ (a : Fin 2048) (r' : Fin 16), τ a r' = i ∧ a = j),
        if_neg (fun h => h.elim h1 h2)]
      rfl

/-- The inverse of a row's sum. -/
theorem sumInv_at (a : FVec Ideal S2048x2048 .f32) (τ : Fin 2048 → Fin 16 → Fin 2048)
    (ha : ∀ i j : Fin 2048, a (ix2 i j) = ((Graph.adj τ i j : ℝ) : EReal)) (i : Fin 2048) : sumInv a (ix1 i) = (((Graph.deg τ i)⁻¹ : ℝ) : EReal) := by
  pointwise [sumInv]
  simp only [ha]
  rw [Graph.sum_adj, Words.ofBits_neg_one]
  exact Graph.pow_deg τ i

/-- The diagonal of inverses. -/
theorem diagInv_at (a : FVec Ideal S2048x2048 .f32) (τ : Fin 2048 → Fin 16 → Fin 2048)
    (ha : ∀ i j : Fin 2048, a (ix2 i j) = ((Graph.adj τ i j : ℝ) : EReal)) (i j : Fin 2048) :
    diagInv a (ix2 i j) = if i = j then (((Graph.deg τ i)⁻¹ : ℝ) : EReal) else 0 := by
  pointwise [diagInv, diag]
  rw [WordCmp.cmpi_eq_eq, WordCmp.select_decide, show IntOp.addi (BitVec.ofNat 32 i.val) 0#32 = BitVec.ofNat 32 i.val from BitVec.add_zero _,
    sumInv_at a τ ha i, Words.ofBits_top]
  refine if_congr (Words.word_inj i j) (if_neg ?_) rfl
  simp only [FloatOps.absf, ← EReal.coe_neg]
  exact (max_lt (EReal.coe_lt_top _) (EReal.coe_lt_top _)).ne

/-- The normalized matrix. -/
theorem norm_at (a : FVec Ideal S2048x2048 .f32) (τ : Fin 2048 → Fin 16 → Fin 2048)
    (ha : ∀ i j : Fin 2048, a (ix2 i j) = ((Graph.adj τ i j : ℝ) : EReal)) (i j : Fin 2048) : RefTerms.norm a (ix2 i j) = ((Graph.norm τ i j : ℝ) : EReal) := by
  pointwise [RefTerms.norm]
  simp only [diagInv_at a τ ha]
  rw [Finset.sum_eq_single i]
  · rw [if_pos rfl, ha, ← EReal.coe_mul]
    rfl
  · intro k _ hk
    rw [if_neg hk.symm, zero_mul]
  · exact fun h => absurd (Finset.mem_univ _) h

end Cert.Proof.RefGraph
-- ==== Proof.RefTable.lean ====
module

public import proofs.«01_k».proof.Proof.RefTerms
public import proofs.«01_k».proof.Proof.Table

@[expose] public section

set_option maxRecDepth 16384

noncomputable section

/-!
The reference's neighbours are the table's.
-/

open Idealize.ShloMosaic Idealize.ShloMosaic.TcCoe Idealize.SL.Sem

namespace Cert.Proof.RefTable

open Cert.ReferenceIdeal Cert.ReferenceIdeal.Gen

/-- The comparison of two similarities is that of the two keys. -/
theorem before_eq (X : Fin 2048 → Fin 32 → ℝ) (g a b : Fin 2048) :
    (Ideal.cmp .ogt (Keys.refKey X g a) (Keys.refKey X g b) == 1#1) = decide (Keys.kerKey X g b < Keys.kerKey X g a) := by
  show (BitVec.ofBool (decide (Keys.refKey X g b < Keys.refKey X g a)) == 1#1) = _
  rw [decide_eq_decide.mpr (Keys.refKey_lt_iff X g a b)]
  cases decide (Keys.kerKey X g b < Keys.kerKey X g a) <;> rfl

/-- Of an argument with real entries, the reference's neighbours are the table's. -/
theorem nbrs_eq (X : Fin 2048 → Fin 32 → ℝ) (x : FVec Ideal S2048x32 .f32) (hX : ∀ (i : Fin 2048) (k : Fin 32), x (ix2 i k) = ((X i k : ℝ) : EReal))
    (i : Fin 2048) (r : Fin 16) : RefTerms.nbrs x (ix2 i r) = BitVec.ofNat 32 (Table.table X i r).val := by
  rw [RefTerms.nbrs_at]
  simp only [RefTerms.sims_at X x hX]
  unfold Table.table
  refine congrArg (fun f : Fin 2048 → Fin 2048 → Bool => BitVec.ofNat 32 (sortedFrom f (r.castLE (by decide))).val) ?_
  exact funext fun a => funext fun b => before_eq X i a b

end Cert.Proof.RefTable
-- ==== Proof.RefValue.lean ====
module

public import proofs.«01_k».proof.Proof.RefGraph
public import proofs.«01_k».proof.Proof.RefTable

@[expose] public section

set_option maxRecDepth 16384

noncomputable section

/-!
The reference's two results: the adjacency matrix of the neighbours' graph and its normalization.
-/

open Idealize.ShloMosaic Idealize.ShloMosaic.TcCoe Idealize.SL.Sem

namespace Cert.Proof.RefValue

open Cert.ReferenceIdeal Cert.ReferenceIdeal.Gen

section
variable (m : (ℓ : Loc nD τ sig) → Buf (Elt Ideal) ℓ) (c : Dev nD) (X : Fin 2048 → Fin 32 → ℝ)
  (x : FVec Ideal S2048x32 .f32) (hx : m ((c.tc : Thread nD τ).loc main_arg0) = x)
  (hX : ∀ (i : Fin 2048) (k : Fin 32), x (ix2 i k) = ((X i k : ℝ) : EReal))
include hx hX

/-- The first result, entry by entry. -/
theorem result0 : Value.res_out0 m c = (fun p : S2048x2048.Idx => ((Graph.adj (Table.table X) (p 0) (p 1) : ℝ) : EReal)) := by
  refine (RefTerms.out0_eq m c).trans ?_
  rw [hx]
  funext p
  obtain ⟨i, j, rfl⟩ : ∃ (i j : Fin 2048), p = ix2 i j := ⟨_, _, eq_ix2 p⟩
  exact RefGraph.adj_at _ _ (RefTable.nbrs_eq X x hX) i j

/-- The second result, entry by entry. -/
theorem result1 : Value.res_out1 m c = (fun p : S2048x2048.Idx => ((Graph.norm (Table.table X) (p 0) (p 1) : ℝ) : EReal)) := by
  refine (RefTerms.out1_eq m c).trans ?_
  rw [hx]
  funext p
  obtain ⟨i, j, rfl⟩ : ∃ (i j : Fin 2048), p = ix2 i j := ⟨_, _, eq_ix2 p⟩
  exact RefGraph.norm_at _ _ (RefGraph.adj_at _ _ (RefTable.nbrs_eq X x hX)) i j

end

end Cert.Proof.RefValue
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.Finite
public import proofs.«01_k».proof.Proof.KerValue
public import proofs.«01_k».proof.Proof.RefValue
public import Idealize.ShloMosaic.Lib.Quiescent
public import Idealize.ShloMosaic.Adequacy
public import Idealize.ShloMosaic.Init

@[expose] public section

noncomputable section

/-!
The proof of this directory's claims.

* Frames: the kernel, at machine words and at exact numbers, and the reference at exact numbers run to the end, leave the argument as it was and every
  semaphore at zero.
* The kernel read at exact numbers is its own text.
* Values: of an argument whose entries are all finite, the kernel and the reference end with equal results, both of them.

For the values: the first stage of the kernel makes the table of each row's sixteen nearest rows (`Stage1`, over `Scores`, `Rounds` and `KerTable`),
the second makes from the table and its transpose the adjacency matrix and its normalization (`Marks`, `Stage2`). The reference's terms are named in `RefTerms`;
its table is the same one (`RefTable`), and its matrices are the same (`RefGraph`). `Words` reads a few constants. `Rank` says that sixteen successive picks of a greatest key are
the first sixteen of a stable sort, and `Keys` that the kernel's keys order the rows as the reference's similarities do.
-/

namespace Cert.Proof

open Idealize.ShloMosaic Idealize.SL.Sem

/-- The reference runs to the end, leaves its argument as it was and every semaphore at zero: it declares none. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD, r.2.mem ((c.tc : Thread Cert.ReferenceIdeal.nD Cert.ReferenceIdeal.τ).loc Cert.ReferenceIdeal.main_arg0)
        = m ((c.tc : Thread Cert.ReferenceIdeal.nD Cert.ReferenceIdeal.τ).loc Cert.ReferenceIdeal.main_arg0)) ∧ r.2.sem = fun _ => 0) :=
  (θ_run Cert.ReferenceIdeal.defs _ _).mono (fun r h => ⟨fun c => (h c).2.2, sem_eq_zero_of_no_sems (by decide) r.2⟩)
    (Cert.ReferenceIdeal.Value.run (F := Ideal) m g)

/-- Of an argument with finite entries the kernel and the reference end with equal results, both of them. -/
theorem values : Cert.algebraic_KernelIdeal_ReferenceIdeal_pre_finite := by
  intro m g m' g' hpre hagree
  refine ⟨fun c => (Cert.KernelIdeal.Gen.dat1 (Cert.KernelIdeal.Gen.V2 m g) c).arrAt 2 Cert.KernelIdeal.cfg1.N,
    fun c => (Cert.KernelIdeal.Gen.dat1 (Cert.KernelIdeal.Gen.V2 m g) c).arrAt 3 Cert.KernelIdeal.cfg1.N, KerRun.run (F := Ideal) m g, ?_⟩
  refine (θ_run Cert.ReferenceIdeal.defs _ _).mono (fun _ h c => ?_) (Cert.ReferenceIdeal.Value.run (F := Ideal) m' g')
  obtain ⟨X, hX⟩ := Finite.exists_real _ (hpre c)
  exact ⟨(h c).1.trans ((RefValue.result0 m' c X _ (hagree c) hX).trans (KerValue.result0 m g c X _ rfl hX).symm),
    (h c).2.1.trans ((RefValue.result1 m' c X _ (hagree c) hX).trans (KerValue.result1 m g c X _ rfl hX).symm), (h c).2.2⟩

/-- All the claims of this directory. -/
theorem claim : Cert.Claim := ⟨Cert.Kernel.Gen.facts, Cert.KernelIdeal.Gen.facts, Cert.ReferenceIdeal.Gen.facts, Cert.Pre_finite.Gen.facts,
  fun m g _ => Cert.Kernel.Gen.frame m g, fun m g _ => Cert.KernelIdeal.Gen.frame m g, fun m g _ => Cert.KernelIdeal.Gen.frame m g,
  fun m g _ => frame_reference m g, fun m g _ => frame_reference m g, trivial, values⟩

end Cert.Proof

end
